-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_RetSample (m : (ℓ : Loc Cert.RetSample.nD Cert.RetSample.τ Cert.RetSample.sig) → Buf (Elt Bits) ℓ) : Prop :=
  True

def Pre_RetSampleIdeal (m : (ℓ : Loc Cert.RetSampleIdeal.nD Cert.RetSampleIdeal.τ Cert.RetSampleIdeal.sig) → Buf (Elt Ideal) ℓ) : Prop :=
  True

def Pre_RetSampleRefIdeal (m : (ℓ : Loc Cert.RetSampleRefIdeal.nD Cert.RetSampleRefIdeal.τ Cert.RetSampleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4)
      ∧ r.2.mem ((c.tc : Thread Cert.FfnDown.nD Cert.FfnDown.τ).loc Cert.FfnDown.main_arg5) = m ((c.tc : Thread Cert.FfnDown.nD Cert.FfnDown.τ).loc Cert.FfnDown.main_arg5))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4)
      ∧ r.2.mem ((c.tc : Thread Cert.FfnDownIdeal.nD Cert.FfnDownIdeal.τ).loc Cert.FfnDownIdeal.main_arg5) = m ((c.tc : Thread Cert.FfnDownIdeal.nD Cert.FfnDownIdeal.τ).loc Cert.FfnDownIdeal.main_arg5))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4)
      ∧ r.2.mem ((c.tc : Thread Cert.FfnDownRefIdeal.nD Cert.FfnDownRefIdeal.τ).loc Cert.FfnDownRefIdeal.main_arg5) = m ((c.tc : Thread Cert.FfnDownRefIdeal.nD Cert.FfnDownRefIdeal.τ).loc Cert.FfnDownRefIdeal.main_arg5))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2)
      ∧ r.2.mem ((c.tc : Thread Cert.EvenInRefIdeal.nD Cert.EvenInRefIdeal.τ).loc Cert.EvenInRefIdeal.main_arg3) = m ((c.tc : Thread Cert.EvenInRefIdeal.nD Cert.EvenInRefIdeal.τ).loc Cert.EvenInRefIdeal.main_arg3))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2)
      ∧ r.2.mem ((c.tc : Thread Cert.OddIn.nD Cert.OddIn.τ).loc Cert.OddIn.main_arg3) = m ((c.tc : Thread Cert.OddIn.nD Cert.OddIn.τ).loc Cert.OddIn.main_arg3))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
      ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2)
      ∧ r.2.mem ((c.tc : Thread Cert.OddInRefIdeal.nD Cert.OddInRefIdeal.τ).loc Cert.OddInRefIdeal.main_arg3) = m ((c.tc : Thread Cert.OddInRefIdeal.nD Cert.OddInRefIdeal.τ).loc Cert.OddInRefIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_RetSample [hRetSample : Cert.RetSample.Facts] : Prop :=
  ∀ (m : (ℓ : Loc Cert.RetSample.nD Cert.RetSample.τ Cert.RetSample.sig) → Buf (Elt Bits) ℓ) (g : Dev Cert.RetSample.nD → PrngReg), Pre_RetSample m →
    θ_run (Cert.RetSample.defs (F := Bits)) (onTc (τ := Cert.RetSample.τ) (Cert.RetSample.main (F := Bits))) ⟨m, fun _ => 0, g⟩ (fun r => (∀ c : Dev Cert.RetSample.nD,
      r.2.mem ((c.tc : Thread Cert.RetSample.nD Cert.RetSample.τ).loc Cert.RetSample.main_arg0) = m ((c.tc : Thread Cert.RetSample.nD Cert.RetSample.τ).loc Cert.RetSample.main_arg0)
      ∧ r.2.mem ((c.tc : Thread Cert.RetSample.nD Cert.RetSample.τ).loc Cert.RetSample.main_arg1) = m ((c.tc : Thread Cert.RetSample.nD Cert.RetSample.τ).loc Cert.RetSample.main_arg1)
      ∧ r.2.mem ((c.tc : Thread Cert.RetSample.nD Cert.RetSample.τ).loc Cert.RetSample.main_arg2) = m ((c.tc : Thread Cert.RetSample.nD Cert.RetSample.τ).loc Cert.RetSample.main_arg2)
      ∧ r.2.mem ((c.tc : Thread Cert.RetSample.nD Cert.RetSample.τ).loc Cert.RetSample.main_arg3) = m ((c.tc : Thread Cert.RetSample.nD Cert.RetSample.τ).loc Cert.RetSample.main_arg3))
      ∧ r.2.sem = fun _ => 0)

def quiescent_RetSampleIdeal [hRetSampleIdeal : Cert.RetSampleIdeal.Facts] : Prop :=
  ∀ (m : (ℓ : Loc Cert.RetSampleIdeal.nD Cert.RetSampleIdeal.τ Cert.RetSampleIdeal.sig) → Buf (Elt Ideal) ℓ) (g : Dev Cert.RetSampleIdeal.nD → PrngReg), Pre_RetSampleIdeal m →
    θ_run (Cert.RetSampleIdeal.defs (F := Ideal)) (onTc (τ := Cert.RetSampleIdeal.τ) (Cert.RetSampleIdeal.main (F := Ideal))) ⟨m, fun _ => 0, g⟩ (fun r => (∀ c : Dev Cert.RetSampleIdeal.nD,
      r.2.mem ((c.tc : Thread Cert.RetSampleIdeal.nD Cert.RetSampleIdeal.τ).loc Cert.RetSampleIdeal.main_arg0) = m ((c.tc : Thread Cert.RetSampleIdeal.nD Cert.RetSampleIdeal.τ).loc Cert.RetSampleIdeal.main_arg0)
      ∧ r.2.mem ((c.tc : Thread Cert.RetSampleIdeal.nD Cert.RetSampleIdeal.τ).loc Cert.RetSampleIdeal.main_arg1) = m ((c.tc : Thread Cert.RetSampleIdeal.nD Cert.RetSampleIdeal.τ).loc Cert.RetSampleIdeal.main_arg1)
      ∧ r.2.mem ((c.tc : Thread Cert.RetSampleIdeal.nD Cert.RetSampleIdeal.τ).loc Cert.RetSampleIdeal.main_arg2) = m ((c.tc : Thread Cert.RetSampleIdeal.nD Cert.RetSampleIdeal.τ).loc Cert.RetSampleIdeal.main_arg2)
      ∧ r.2.mem ((c.tc : Thread Cert.RetSampleIdeal.nD Cert.RetSampleIdeal.τ).loc Cert.RetSampleIdeal.main_arg3) = m ((c.tc : Thread Cert.RetSampleIdeal.nD Cert.RetSampleIdeal.τ).loc Cert.RetSampleIdeal.main_arg3))
      ∧ r.2.sem = fun _ => 0)

def quiescent_RetSampleRefIdeal [hRetSampleRefIdeal : Cert.RetSampleRefIdeal.Facts] : Prop :=
  ∀ (m : (ℓ : Loc Cert.RetSampleRefIdeal.nD Cert.RetSampleRefIdeal.τ Cert.RetSampleRefIdeal.sig) → Buf (Elt Ideal) ℓ) (g : Dev Cert.RetSampleRefIdeal.nD → PrngReg), Pre_RetSampleRefIdeal m →
    θ_run (Cert.RetSampleRefIdeal.defs (F := Ideal)) (onTc (τ := Cert.RetSampleRefIdeal.τ) (Cert.RetSampleRefIdeal.main (F := Ideal))) ⟨m, fun _ => 0, g⟩ (fun r => (∀ c : Dev Cert.RetSampleRefIdeal.nD,
      r.2.mem ((c.tc : Thread Cert.RetSampleRefIdeal.nD Cert.RetSampleRefIdeal.τ).loc Cert.RetSampleRefIdeal.main_arg0) = m ((c.tc : Thread Cert.RetSampleRefIdeal.nD Cert.RetSampleRefIdeal.τ).loc Cert.RetSampleRefIdeal.main_arg0)
      ∧ r.2.mem ((c.tc : Thread Cert.RetSampleRefIdeal.nD Cert.RetSampleRefIdeal.τ).loc Cert.RetSampleRefIdeal.main_arg1) = m ((c.tc : Thread Cert.RetSampleRefIdeal.nD Cert.RetSampleRefIdeal.τ).loc Cert.RetSampleRefIdeal.main_arg1)
      ∧ r.2.mem ((c.tc : Thread Cert.RetSampleRefIdeal.nD Cert.RetSampleRefIdeal.τ).loc Cert.RetSampleRefIdeal.main_arg2) = m ((c.tc : Thread Cert.RetSampleRefIdeal.nD Cert.RetSampleRefIdeal.τ).loc Cert.RetSampleRefIdeal.main_arg2)
      ∧ r.2.mem ((c.tc : Thread Cert.RetSampleRefIdeal.nD Cert.RetSampleRefIdeal.τ).loc Cert.RetSampleRefIdeal.main_arg3) = m ((c.tc : Thread Cert.RetSampleRefIdeal.nD Cert.RetSampleRefIdeal.τ).loc Cert.RetSampleRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v56_0)) (v1 : (c : Dev Cert.KernelIdeal.nD) → Buf (Elt Ideal) ((c.tc : Thread Cert.KernelIdeal.nD Cert.KernelIdeal.τ).loc Cert.KernelIdeal.main_v56_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56_0) = v0 c
          ∧ r.2.mem ((c.tc : Thread Cert.KernelIdeal.nD Cert.KernelIdeal.τ).loc Cert.KernelIdeal.main_v56_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v55_8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v2) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v13) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)
      ∧ m' ((c.tc : Thread Cert.FfnDownRefIdeal.nD Cert.FfnDownRefIdeal.τ).loc Cert.FfnDownRefIdeal.main_arg4) = m ((c.tc : Thread Cert.FfnDownIdeal.nD Cert.FfnDownIdeal.τ).loc Cert.FfnDownIdeal.main_arg4)
      ∧ m' ((c.tc : Thread Cert.FfnDownRefIdeal.nD Cert.FfnDownRefIdeal.τ).loc Cert.FfnDownRefIdeal.main_arg5) = m ((c.tc : Thread Cert.FfnDownIdeal.nD Cert.FfnDownIdeal.τ).loc Cert.FfnDownIdeal.main_arg5)) →
    ∃ (v0 : (c : Dev Cert.FfnDownIdeal.nD) → Buf (Elt Ideal) ((c.tc : Thread Cert.FfnDownIdeal.nD Cert.FfnDownIdeal.τ).loc Cert.FfnDownIdeal.main_v19)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v19) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4)
          ∧ r.2.mem ((c.tc : Thread Cert.FfnDownIdeal.nD Cert.FfnDownIdeal.τ).loc Cert.FfnDownIdeal.main_arg5) = m ((c.tc : Thread Cert.FfnDownIdeal.nD Cert.FfnDownIdeal.τ).loc Cert.FfnDownIdeal.main_arg5))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v66) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3)
          ∧ r.2.mem ((c.tc : Thread Cert.FfnDownRefIdeal.nD Cert.FfnDownRefIdeal.τ).loc Cert.FfnDownRefIdeal.main_arg4) = m' ((c.tc : Thread Cert.FfnDownRefIdeal.nD Cert.FfnDownRefIdeal.τ).loc Cert.FfnDownRefIdeal.main_arg4)
          ∧ r.2.mem ((c.tc : Thread Cert.FfnDownRefIdeal.nD Cert.FfnDownRefIdeal.τ).loc Cert.FfnDownRefIdeal.main_arg5) = m' ((c.tc : Thread Cert.FfnDownRefIdeal.nD Cert.FfnDownRefIdeal.τ).loc Cert.FfnDownRefIdeal.main_arg5))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v12) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)
      ∧ m' ((c.tc : Thread Cert.EvenInRefIdeal.nD Cert.EvenInRefIdeal.τ).loc Cert.EvenInRefIdeal.main_arg3) = m ((c.tc : Thread Cert.EvenInIdeal.nD Cert.EvenInIdeal.τ).loc Cert.EvenInIdeal.main_arg3)) →
    ∃ (v0 : (c : Dev Cert.EvenInIdeal.nD) → Buf (Elt Ideal) ((c.tc : Thread Cert.EvenInIdeal.nD Cert.EvenInIdeal.τ).loc Cert.EvenInIdeal.main_v34)) (v1 : (c : Dev Cert.EvenInIdeal.nD) → Buf (Elt Ideal) ((c.tc : Thread Cert.EvenInIdeal.nD Cert.EvenInIdeal.τ).loc Cert.EvenInIdeal.main_v62)) (v2 : (c : Dev Cert.EvenInIdeal.nD) → Buf (Elt Ideal) ((c.tc : Thread Cert.EvenInIdeal.nD Cert.EvenInIdeal.τ).loc Cert.EvenInIdeal.main_v64)) (v3 : (c : Dev Cert.EvenInIdeal.nD) → Buf (Elt Ideal) ((c.tc : Thread Cert.EvenInIdeal.nD Cert.EvenInIdeal.τ).loc Cert.EvenInIdeal.main_v66)) (v4 : (c : Dev Cert.EvenInIdeal.nD) → Buf (Elt Ideal) ((c.tc : Thread Cert.EvenInIdeal.nD Cert.EvenInIdeal.τ).loc Cert.EvenInIdeal.main_v68)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v34) = v0 c
          ∧ r.2.mem ((c.tc : Thread Cert.EvenInIdeal.nD Cert.EvenInIdeal.τ).loc Cert.EvenInIdeal.main_v62) = v1 c
          ∧ r.2.mem ((c.tc : Thread Cert.EvenInIdeal.nD Cert.EvenInIdeal.τ).loc Cert.EvenInIdeal.main_v64) = v2 c
          ∧ r.2.mem ((c.tc : Thread Cert.EvenInIdeal.nD Cert.EvenInIdeal.τ).loc Cert.EvenInIdeal.main_v66) = v3 c
          ∧ r.2.mem ((c.tc : Thread Cert.EvenInIdeal.nD Cert.EvenInIdeal.τ).loc Cert.EvenInIdeal.main_v68) = v4 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v18) = v0 c
          ∧ r.2.mem ((c.tc : Thread Cert.EvenInRefIdeal.nD Cert.EvenInRefIdeal.τ).loc Cert.EvenInRefIdeal.main_v36) = v1 c
          ∧ r.2.mem ((c.tc : Thread Cert.EvenInRefIdeal.nD Cert.EvenInRefIdeal.τ).loc Cert.EvenInRefIdeal.main_v50) = v2 c
          ∧ r.2.mem ((c.tc : Thread Cert.EvenInRefIdeal.nD Cert.EvenInRefIdeal.τ).loc Cert.EvenInRefIdeal.main_v83) = v3 c
          ∧ r.2.mem ((c.tc : Thread Cert.EvenInRefIdeal.nD Cert.EvenInRefIdeal.τ).loc Cert.EvenInRefIdeal.main_v118) = v4 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2)
          ∧ r.2.mem ((c.tc : Thread Cert.EvenInRefIdeal.nD Cert.EvenInRefIdeal.τ).loc Cert.EvenInRefIdeal.main_arg3) = m' ((c.tc : Thread Cert.EvenInRefIdeal.nD Cert.EvenInRefIdeal.τ).loc Cert.EvenInRefIdeal.main_arg3))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)
      ∧ m' ((c.tc : Thread Cert.OddInRefIdeal.nD Cert.OddInRefIdeal.τ).loc Cert.OddInRefIdeal.main_arg2) = m ((c.tc : Thread Cert.OddInIdeal.nD Cert.OddInIdeal.τ).loc Cert.OddInIdeal.main_arg2)
      ∧ m' ((c.tc : Thread Cert.OddInRefIdeal.nD Cert.OddInRefIdeal.τ).loc Cert.OddInRefIdeal.main_arg3) = m ((c.tc : Thread Cert.OddInIdeal.nD Cert.OddInIdeal.τ).loc Cert.OddInIdeal.main_arg3)) →
    ∃ (v0 : (c : Dev Cert.OddInIdeal.nD) → Buf (Elt Ideal) ((c.tc : Thread Cert.OddInIdeal.nD Cert.OddInIdeal.τ).loc Cert.OddInIdeal.main_v16)) (v1 : (c : Dev Cert.OddInIdeal.nD) → Buf (Elt Ideal) ((c.tc : Thread Cert.OddInIdeal.nD Cert.OddInIdeal.τ).loc Cert.OddInIdeal.main_v26)) (v2 : (c : Dev Cert.OddInIdeal.nD) → Buf (Elt Ideal) ((c.tc : Thread Cert.OddInIdeal.nD Cert.OddInIdeal.τ).loc Cert.OddInIdeal.main_v28)) (v3 : (c : Dev Cert.OddInIdeal.nD) → Buf (Elt Ideal) ((c.tc : Thread Cert.OddInIdeal.nD Cert.OddInIdeal.τ).loc Cert.OddInIdeal.main_v30)) (v4 : (c : Dev Cert.OddInIdeal.nD) → Buf (Elt Ideal) ((c.tc : Thread Cert.OddInIdeal.nD Cert.OddInIdeal.τ).loc Cert.OddInIdeal.main_v32)) (v5 : (c : Dev Cert.OddInIdeal.nD) → Buf (Elt Ideal) ((c.tc : Thread Cert.OddInIdeal.nD Cert.OddInIdeal.τ).loc Cert.OddInIdeal.main_v35)) (v6 : (c : Dev Cert.OddInIdeal.nD) → Buf (Elt Ideal) ((c.tc : Thread Cert.OddInIdeal.nD Cert.OddInIdeal.τ).loc Cert.OddInIdeal.main_v39)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v16) = v0 c
          ∧ r.2.mem ((c.tc : Thread Cert.OddInIdeal.nD Cert.OddInIdeal.τ).loc Cert.OddInIdeal.main_v26) = v1 c
          ∧ r.2.mem ((c.tc : Thread Cert.OddInIdeal.nD Cert.OddInIdeal.τ).loc Cert.OddInIdeal.main_v28) = v2 c
          ∧ r.2.mem ((c.tc : Thread Cert.OddInIdeal.nD Cert.OddInIdeal.τ).loc Cert.OddInIdeal.main_v30) = v3 c
          ∧ r.2.mem ((c.tc : Thread Cert.OddInIdeal.nD Cert.OddInIdeal.τ).loc Cert.OddInIdeal.main_v32) = v4 c
          ∧ r.2.mem ((c.tc : Thread Cert.OddInIdeal.nD Cert.OddInIdeal.τ).loc Cert.OddInIdeal.main_v35) = v5 c
          ∧ r.2.mem ((c.tc : Thread Cert.OddInIdeal.nD Cert.OddInIdeal.τ).loc Cert.OddInIdeal.main_v39) = v6 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
          ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v30) = v0 c
          ∧ r.2.mem ((c.tc : Thread Cert.OddInRefIdeal.nD Cert.OddInRefIdeal.τ).loc Cert.OddInRefIdeal.main_v36) = v1 c
          ∧ r.2.mem ((c.tc : Thread Cert.OddInRefIdeal.nD Cert.OddInRefIdeal.τ).loc Cert.OddInRefIdeal.main_v38) = v2 c
          ∧ r.2.mem ((c.tc : Thread Cert.OddInRefIdeal.nD Cert.OddInRefIdeal.τ).loc Cert.OddInRefIdeal.main_v40) = v3 c
          ∧ r.2.mem ((c.tc : Thread Cert.OddInRefIdeal.nD Cert.OddInRefIdeal.τ).loc Cert.OddInRefIdeal.main_v42) = v4 c
          ∧ r.2.mem ((c.tc : Thread Cert.OddInRefIdeal.nD Cert.OddInRefIdeal.τ).loc Cert.OddInRefIdeal.main_v44) = v5 c
          ∧ r.2.mem ((c.tc : Thread Cert.OddInRefIdeal.nD Cert.OddInRefIdeal.τ).loc Cert.OddInRefIdeal.main_v48) = v6 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2)
          ∧ r.2.mem ((c.tc : Thread Cert.OddInRefIdeal.nD Cert.OddInRefIdeal.τ).loc Cert.OddInRefIdeal.main_arg3) = m' ((c.tc : Thread Cert.OddInRefIdeal.nD Cert.OddInRefIdeal.τ).loc Cert.OddInRefIdeal.main_arg3))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v1) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v1) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_RetSample_RetSampleIdeal : Prop :=
  True

def algebraic_RetSampleIdeal_RetSampleRefIdeal [hRetSampleIdeal : Cert.RetSampleIdeal.Facts] [hRetSampleRefIdeal : Cert.RetSampleRefIdeal.Facts] : Prop :=
  ∀ (m : (ℓ : Loc Cert.RetSampleIdeal.nD Cert.RetSampleIdeal.τ Cert.RetSampleIdeal.sig) → Buf (Elt Ideal) ℓ) (g : Dev Cert.RetSampleIdeal.nD → PrngReg)
    (m' : (ℓ : Loc Cert.RetSampleRefIdeal.nD Cert.RetSampleRefIdeal.τ Cert.RetSampleRefIdeal.sig) → Buf (Elt Ideal) ℓ) (g' : Dev Cert.RetSampleRefIdeal.nD → PrngReg), Pre_RetSampleIdeal m →
    (∀ c : Dev Cert.RetSampleIdeal.nD,
      m' ((c.tc : Thread Cert.RetSampleRefIdeal.nD Cert.RetSampleRefIdeal.τ).loc Cert.RetSampleRefIdeal.main_arg0) = m ((c.tc : Thread Cert.RetSampleIdeal.nD Cert.RetSampleIdeal.τ).loc Cert.RetSampleIdeal.main_arg0)
      ∧ m' ((c.tc : Thread Cert.RetSampleRefIdeal.nD Cert.RetSampleRefIdeal.τ).loc Cert.RetSampleRefIdeal.main_arg1) = m ((c.tc : Thread Cert.RetSampleIdeal.nD Cert.RetSampleIdeal.τ).loc Cert.RetSampleIdeal.main_arg1)
      ∧ m' ((c.tc : Thread Cert.RetSampleRefIdeal.nD Cert.RetSampleRefIdeal.τ).loc Cert.RetSampleRefIdeal.main_arg2) = m ((c.tc : Thread Cert.RetSampleIdeal.nD Cert.RetSampleIdeal.τ).loc Cert.RetSampleIdeal.main_arg2)
      ∧ m' ((c.tc : Thread Cert.RetSampleRefIdeal.nD Cert.RetSampleRefIdeal.τ).loc Cert.RetSampleRefIdeal.main_arg3) = m ((c.tc : Thread Cert.RetSampleIdeal.nD Cert.RetSampleIdeal.τ).loc Cert.RetSampleIdeal.main_arg3)) →
    ∃ (v0 : (c : Dev Cert.RetSampleIdeal.nD) → Buf (Elt Ideal) ((c.tc : Thread Cert.RetSampleIdeal.nD Cert.RetSampleIdeal.τ).loc Cert.RetSampleIdeal.main_v61_0)) (v1 : (c : Dev Cert.RetSampleIdeal.nD) → Buf (Elt Ideal) ((c.tc : Thread Cert.RetSampleIdeal.nD Cert.RetSampleIdeal.τ).loc Cert.RetSampleIdeal.main_v61_1)),
      θ_run (Cert.RetSampleIdeal.defs (F := Ideal)) (onTc (τ := Cert.RetSampleIdeal.τ) (Cert.RetSampleIdeal.main (F := Ideal))) ⟨m, fun _ => 0, g⟩ (fun r => ∀ c : Dev Cert.RetSampleIdeal.nD,
          r.2.mem ((c.tc : Thread Cert.RetSampleIdeal.nD Cert.RetSampleIdeal.τ).loc Cert.RetSampleIdeal.main_v61_0) = v0 c
          ∧ r.2.mem ((c.tc : Thread Cert.RetSampleIdeal.nD Cert.RetSampleIdeal.τ).loc Cert.RetSampleIdeal.main_v61_1) = v1 c
          ∧ r.2.mem ((c.tc : Thread Cert.RetSampleIdeal.nD Cert.RetSampleIdeal.τ).loc Cert.RetSampleIdeal.main_arg0) = m ((c.tc : Thread Cert.RetSampleIdeal.nD Cert.RetSampleIdeal.τ).loc Cert.RetSampleIdeal.main_arg0)
          ∧ r.2.mem ((c.tc : Thread Cert.RetSampleIdeal.nD Cert.RetSampleIdeal.τ).loc Cert.RetSampleIdeal.main_arg1) = m ((c.tc : Thread Cert.RetSampleIdeal.nD Cert.RetSampleIdeal.τ).loc Cert.RetSampleIdeal.main_arg1)
          ∧ r.2.mem ((c.tc : Thread Cert.RetSampleIdeal.nD Cert.RetSampleIdeal.τ).loc Cert.RetSampleIdeal.main_arg2) = m ((c.tc : Thread Cert.RetSampleIdeal.nD Cert.RetSampleIdeal.τ).loc Cert.RetSampleIdeal.main_arg2)
          ∧ r.2.mem ((c.tc : Thread Cert.RetSampleIdeal.nD Cert.RetSampleIdeal.τ).loc Cert.RetSampleIdeal.main_arg3) = m ((c.tc : Thread Cert.RetSampleIdeal.nD Cert.RetSampleIdeal.τ).loc Cert.RetSampleIdeal.main_arg3))
      ∧ θ_run (Cert.RetSampleRefIdeal.defs (F := Ideal)) (onTc (τ := Cert.RetSampleRefIdeal.τ) (Cert.RetSampleRefIdeal.main (F := Ideal))) ⟨m', fun _ => 0, g'⟩ (fun r => ∀ c : Dev Cert.RetSampleRefIdeal.nD,
          r.2.mem ((c.tc : Thread Cert.RetSampleRefIdeal.nD Cert.RetSampleRefIdeal.τ).loc Cert.RetSampleRefIdeal.main_v73) = v0 c
          ∧ r.2.mem ((c.tc : Thread Cert.RetSampleRefIdeal.nD Cert.RetSampleRefIdeal.τ).loc Cert.RetSampleRefIdeal.main_v70) = v1 c
          ∧ r.2.mem ((c.tc : Thread Cert.RetSampleRefIdeal.nD Cert.RetSampleRefIdeal.τ).loc Cert.RetSampleRefIdeal.main_arg0) = m' ((c.tc : Thread Cert.RetSampleRefIdeal.nD Cert.RetSampleRefIdeal.τ).loc Cert.RetSampleRefIdeal.main_arg0)
          ∧ r.2.mem ((c.tc : Thread Cert.RetSampleRefIdeal.nD Cert.RetSampleRefIdeal.τ).loc Cert.RetSampleRefIdeal.main_arg1) = m' ((c.tc : Thread Cert.RetSampleRefIdeal.nD Cert.RetSampleRefIdeal.τ).loc Cert.RetSampleRefIdeal.main_arg1)
          ∧ r.2.mem ((c.tc : Thread Cert.RetSampleRefIdeal.nD Cert.RetSampleRefIdeal.τ).loc Cert.RetSampleRefIdeal.main_arg2) = m' ((c.tc : Thread Cert.RetSampleRefIdeal.nD Cert.RetSampleRefIdeal.τ).loc Cert.RetSampleRefIdeal.main_arg2)
          ∧ r.2.mem ((c.tc : Thread Cert.RetSampleRefIdeal.nD Cert.RetSampleRefIdeal.τ).loc Cert.RetSampleRefIdeal.main_arg3) = m' ((c.tc : Thread Cert.RetSampleRefIdeal.nD Cert.RetSampleRefIdeal.τ).loc Cert.RetSampleRefIdeal.main_arg3))

def Claim : Prop :=
  ∃ (hKernel : Cert.Kernel.Facts) (hKernelIdeal : Cert.KernelIdeal.Facts) (hReferenceIdeal : Cert.ReferenceIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hFinalNorm : Cert.FinalNorm.Facts) (hFinalNormIdeal : Cert.FinalNormIdeal.Facts) (hFinalNormRefIdeal : Cert.FinalNormRefIdeal.Facts) (hEvenIn : Cert.EvenIn.Facts) (hEvenInIdeal : Cert.EvenInIdeal.Facts) (hEvenInRefIdeal : Cert.EvenInRefIdeal.Facts) (hOddIn : Cert.OddIn.Facts) (hOddInIdeal : Cert.OddInIdeal.Facts) (hOddInRefIdeal : Cert.OddInRefIdeal.Facts) (hMixOut : Cert.MixOut.Facts) (hMixOutIdeal : Cert.MixOutIdeal.Facts) (hMixOutRefIdeal : Cert.MixOutRefIdeal.Facts) (hRetSample : Cert.RetSample.Facts) (hRetSampleIdeal : Cert.RetSampleIdeal.Facts) (hRetSampleRefIdeal : Cert.RetSampleRefIdeal.Facts),
    quiescent_Kernel (hKernel := hKernel)
    ∧ quiescent_KernelIdeal (hKernelIdeal := hKernelIdeal)
    ∧ quiescent_ReferenceIdeal (hReferenceIdeal := hReferenceIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_RetSample (hRetSample := hRetSample)
    ∧ quiescent_RetSampleIdeal (hRetSampleIdeal := hRetSampleIdeal)
    ∧ quiescent_RetSampleRefIdeal (hRetSampleRefIdeal := hRetSampleRefIdeal)
    ∧ preserves_Kernel_KernelIdeal
    ∧ algebraic_KernelIdeal_ReferenceIdeal (hKernelIdeal := hKernelIdeal) (hReferenceIdeal := hReferenceIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_EvenIn_EvenInIdeal
    ∧ algebraic_EvenInIdeal_EvenInRefIdeal (hEvenInIdeal := hEvenInIdeal) (hEvenInRefIdeal := hEvenInRefIdeal)
    ∧ preserves_OddIn_OddInIdeal
    ∧ algebraic_OddInIdeal_OddInRefIdeal (hOddInIdeal := hOddInIdeal) (hOddInRefIdeal := hOddInRefIdeal)
    ∧ preserves_MixOut_MixOutIdeal
    ∧ algebraic_MixOutIdeal_MixOutRefIdeal (hMixOutIdeal := hMixOutIdeal) (hMixOutRefIdeal := hMixOutRefIdeal)
    ∧ preserves_RetSample_RetSampleIdeal
    ∧ algebraic_RetSampleIdeal_RetSampleRefIdeal (hRetSampleIdeal := hRetSampleIdeal) (hRetSampleRefIdeal := hRetSampleRefIdeal)
-- ==== Kernel.lean ====
abbrev S8x2048x512 : Shape := ⟨3, ![8, 2048, 512]⟩
abbrev S_ : Shape := ⟨0, ![]⟩
abbrev S8x4x128x128 : Shape := ⟨4, ![8, 4, 128, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x8x128 : Shape := ⟨3, ![4, 8, 128]⟩
abbrev S1x8x128 : Shape := ⟨3, ![1, 8, 128]⟩
abbrev S1x1x128x128 : Shape := ⟨4, ![1, 1, 128, 128]⟩
abbrev S1x1x128 : Shape := ⟨3, ![1, 1, 128]⟩

abbrev nBuf : Space → Nat
  | .hbm => 80
  | .vmem => 21
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S_, .f32⟩
  | .hbm, ⟨4, _⟩ => ⟨S8x4x128x128, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S4, .f32⟩
  | .hbm, ⟨16, _⟩ => ⟨S128, .f32⟩
  | .hbm, ⟨17, _⟩ => ⟨S128x1, .f32⟩
  | .hbm, ⟨18, _⟩ => ⟨S1x128, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S_, .f32⟩
  | .hbm, ⟨23, _⟩ => ⟨S128x128, .f32⟩
  | .hbm, ⟨24, _⟩ => ⟨S128x128, .i1⟩
  | .hbm, ⟨25, _⟩ => ⟨S_, .f32⟩
  | .hbm, ⟨26, _⟩ => ⟨S128x128, .f32⟩
  | .hbm, ⟨27, _⟩ => ⟨S128x128, .f32⟩
  | .hbm, ⟨28, _⟩ => ⟨S4x1x1, .f32⟩
  | .hbm, ⟨29, _⟩ => ⟨S1x128x128, .f32⟩
  | .hbm, ⟨30, _⟩ => ⟨S4x128x128, .f32⟩
  | .hbm, ⟨31, _⟩ => ⟨S4x128x128, .f32⟩
  | .hbm, ⟨32, _⟩ => ⟨S4x128x128, .f32⟩
  | .hbm, ⟨33, _⟩ => ⟨S4x128x128, .f32⟩
  | .hbm, ⟨34, _⟩ => ⟨S_, .f32⟩
  | .hbm, ⟨35, _⟩ => ⟨S_, .f32⟩
  | .hbm, ⟨36, _⟩ => ⟨S4x128x128, .i1⟩
  | .hbm, ⟨37, _⟩ => ⟨S4x128x128, .f32⟩
  | .hbm, ⟨38, _⟩ => ⟨S4x128x128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S4x1, .f32⟩
  | .hbm, ⟨43, _⟩ => ⟨S1x128, .f32⟩
  | .hbm, ⟨44, _⟩ => ⟨S4x128, .f32⟩
  | .hbm, ⟨45, _⟩ => ⟨S4x128, .f32⟩
  | .hbm, ⟨46, _⟩ => ⟨S4x128, .f32⟩
  | .hbm, ⟨47, _⟩ => ⟨S4x128, .f32⟩
  | .hbm, ⟨48, _⟩ => ⟨S_, .f32⟩
  | .hbm, ⟨49, _⟩ => ⟨S128, .f32⟩
  | .hbm, ⟨50, _⟩ => ⟨S128, .i1⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S4x1, .f32⟩
  | .hbm, ⟨58, _⟩ => ⟨S1x128, .f32⟩
  | .hbm, ⟨59, _⟩ => ⟨S4x128, .f32⟩
  | .hbm, ⟨60, _⟩ => ⟨S4x128, .f32⟩
  | .hbm, ⟨61, _⟩ => ⟨S4x128, .f32⟩
  | .hbm, ⟨62, _⟩ => ⟨S4x128, .f32⟩
  | .hbm, ⟨63, _⟩ => ⟨S_, .f32⟩
  | .hbm, ⟨64, _⟩ => ⟨S_, .f32⟩
  | .hbm, ⟨65, _⟩ => ⟨S4x128, .i1⟩
  | .hbm, ⟨66, _⟩ => ⟨S4x128, .f32⟩
  | .hbm, ⟨67, _⟩ => ⟨S4x128, .f32⟩
  | .hbm, ⟨68, _⟩ => ⟨S_, .f32⟩
  | .hbm, ⟨69, _⟩ => ⟨S4, .f32⟩
  | .hbm, ⟨70, _⟩ => ⟨S4, .f32⟩
  | .hbm, ⟨71, _⟩ => ⟨S4, .f32⟩
  | .hbm, ⟨72, _⟩ => ⟨S4x128x1, .f32⟩
  | .hbm, ⟨73, _⟩ => ⟨S4x128x128, .f32⟩
  | .hbm, ⟨74, _⟩ => ⟨S4x128x1, .f32⟩
  | .hbm, ⟨75, _⟩ => ⟨S4x128x128, .f32⟩
  | .hbm, ⟨76, _⟩ => ⟨S4x1x1, .f32⟩
  | .hbm, ⟨77, _⟩ => ⟨S4x8x128, .f32⟩
  | .hbm, ⟨78, _⟩ => ⟨S8x2048x512, .f32⟩
  | .hbm, ⟨79, _⟩ => ⟨S8x4x128x128, .f32⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x8x128, .f32⟩
  | .local _ .vmem, ⟨13, _⟩ => ⟨S1x8x128, .f32⟩
  | .local _ .vmem, ⟨14, _⟩ => ⟨S1x1x128x128, .f32⟩
  | .local _ .vmem, ⟨15, _⟩ => ⟨S1x1x128x128, .f32⟩
  | .local _ .vmem, ⟨16, _⟩ => ⟨S1x128x128, .f32⟩
  | .local _ .vmem, ⟨17, _⟩ => ⟨S1x128x128, .f32⟩
  | .local _ .vmem, ⟨18, _⟩ => ⟨S1x1x128x128, .f32⟩
  | .local _ .vmem, ⟨19, _⟩ => ⟨S1x1x128x128, .f32⟩
  | .local _ .vmem, ⟨20, _⟩ => ⟨S128x128, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56_0 : Ref sig .tc := ⟨.hbm, 78, rfl⟩
abbrev main_v56_1 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![8, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== ReferenceIdeal.lean ====
abbrev S8x2048x512 : Shape := ⟨3, ![8, 2048, 512]⟩
abbrev S8x2048x4x128 : Shape := ⟨4, ![8, 2048, 4, 128]⟩
abbrev S_ : Shape := ⟨0, ![]⟩
abbrev S8x4x128x128 : Shape := ⟨4, ![8, 4, 128, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S8x16x128x4x128 : Shape := ⟨5, ![8, 16, 128, 4, 128]⟩
abbrev S16x8x4x128x128 : Shape := ⟨5, ![16, 8, 4, 128, 128]⟩
abbrev S1x8x4x128x128 : Shape := ⟨5, ![1, 8, 4, 128, 128]⟩
abbrev S1x4x128x128 : Shape := ⟨4, ![1, 4, 128, 128]⟩
abbrev S4x128x1 : Shape := ⟨3, ![4, 128, 1]⟩
abbrev S1x4x128x1 : Shape := ⟨4, ![1, 4, 128, 1]⟩
abbrev S1x4x1x1 : Shape := ⟨4, ![1, 4, 1, 1]⟩

abbrev nBuf : Space → Nat
  | .hbm => 135
  | .vmem => 0
  | .smem => 0
  | _ => 0

abbrev hbmTy0_0 (i : Nat) : BufTy := match i % 128 with
  | 0 => ⟨S8x2048x512, .f32⟩
  | 1 => ⟨S8x2048x512, .f32⟩
  | 2 => ⟨S8x2048x512, .f32⟩
  | 3 => ⟨S8x2048x4x128, .f32⟩
  | 4 => ⟨S8x2048x4x128, .f32⟩
  | 5 => ⟨S8x2048x4x128, .f32⟩
  | 6 => ⟨S_, .f32⟩
  | 7 => ⟨S8x4x128x128, .f32⟩
  | 8 => ⟨S4, .f32⟩
  | 9 => ⟨S_, .f32⟩
  | 10 => ⟨S4, .f32⟩
  | 11 => ⟨S4, .f32⟩
  | 12 => ⟨S_, .f32⟩
  | 13 => ⟨S4, .f32⟩
  | 14 => ⟨S4, .f32⟩
  | 15 => ⟨S_, .f32⟩
  | 16 => ⟨S4, .f32⟩
  | 17 => ⟨S4, .f32⟩
  | 18 => ⟨S4, .f32⟩
  | 19 => ⟨S128, .f32⟩
  | 20 => ⟨S128x1, .f32⟩
  | 21 => ⟨S1x128, .f32⟩
  | 22 => ⟨S128x128, .f32⟩
  | 23 => ⟨S128x128, .f32⟩
  | 24 => ⟨S128x128, .f32⟩
  | 25 => ⟨S_, .f32⟩
  | 26 => ⟨S128x128, .f32⟩
  | 27 => ⟨S128x128, .i1⟩
  | 28 => ⟨S_, .f32⟩
  | 29 => ⟨S128x128, .f32⟩
  | 30 => ⟨S128x128, .f32⟩
  | 31 => ⟨S4x1x1, .f32⟩
  | 32 => ⟨S1x128x128, .f32⟩
  | 33 => ⟨S4x128x128, .f32⟩
  | 34 => ⟨S4x128x128, .f32⟩
  | 35 => ⟨S4x128x128, .f32⟩
  | 36 => ⟨S4x128x128, .f32⟩
  | 37 => ⟨S_, .f32⟩
  | 38 => ⟨S_, .f32⟩
  | 39 => ⟨S4x128x128, .i1⟩
  | 40 => ⟨S4x128x128, .f32⟩
  | 41 => ⟨S4x128x128, .f32⟩
  | 42 => ⟨S_, .f32⟩
  | 43 => ⟨S128, .f32⟩
  | 44 => ⟨S128, .f32⟩
  | 45 => ⟨S4x1, .f32⟩
  | 46 => ⟨S1x128, .f32⟩
  | 47 => ⟨S4x128, .f32⟩
  | 48 => ⟨S4x128, .f32⟩
  | 49 => ⟨S4x128, .f32⟩
  | 50 => ⟨S4x128, .f32⟩
  | 51 => ⟨S_, .f32⟩
  | 52 => ⟨S128, .f32⟩
  | 53 => ⟨S128, .f32⟩
  | 54 => ⟨S4x1, .f32⟩
  | 55 => ⟨S1x128, .f32⟩
  | 56 => ⟨S4x128, .f32⟩
  | 57 => ⟨S4x128, .f32⟩
  | 58 => ⟨S4x128, .f32⟩
  | 59 => ⟨S4x128, .f32⟩
  | 60 => ⟨S_, .f32⟩
  | 61 => ⟨S4, .f32⟩
  | 62 => ⟨S4, .f32⟩
  | 63 => ⟨S4, .f32⟩
  | 64 => ⟨S8x16x128x4x128, .f32⟩
  | 65 => ⟨S16x8x4x128x128, .f32⟩
  | 66 => ⟨S8x16x128x4x128, .f32⟩
  | 67 => ⟨S16x8x4x128x128, .f32⟩
  | 68 => ⟨S8x16x128x4x128, .f32⟩
  | 69 => ⟨S16x8x4x128x128, .f32⟩
  | 70 => ⟨S_, .f32⟩
  | 71 => ⟨S16x8x4x128x128, .f32⟩
  | 72 => ⟨S_, .i32⟩
  | 73 => ⟨S16x8x4x128x128, .f32⟩
  | 74 => ⟨S16x8x4x128x128, .f32⟩
  | 75 => ⟨S16x8x4x128x128, .f32⟩
  | 76 => ⟨S4x128x128, .f32⟩
  | 77 => ⟨S4x128, .f32⟩
  | 78 => ⟨S4, .f32⟩
  | 79 => ⟨S4x128, .f32⟩
  | 80 => ⟨S_, .i32⟩
  | 81 => ⟨S8x4x128x128, .f32⟩
  | 82 => ⟨S16x8x4x128x128, .f32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S1x8x4x128x128, .f32⟩
  | 90 => ⟨S8x4x128x128, .f32⟩
  | 91 => ⟨S_, .i32⟩
  | 92 => ⟨S_, .i32⟩
  | 93 => ⟨S_, .i32⟩
  | 94 => ⟨S_, .i32⟩
  | 95 => ⟨S1x8x4x128x128, .f32⟩
  | 96 => ⟨S8x4x128x128, .f32⟩
  | 97 => ⟨S_, .i32⟩
  | 98 => ⟨S_, .i32⟩
  | 99 => ⟨S_, .i32⟩
  | 100 => ⟨S_, .i32⟩
  | 101 => ⟨S1x8x4x128x128, .f32⟩
  | 102 => ⟨S8x4x128x128, .f32⟩
  | 103 => ⟨S8x4x128x128, .f32⟩
  | 104 => ⟨S1x4x128x128, .f32⟩
  | 105 => ⟨S8x4x128x128, .f32⟩
  | 106 => ⟨S8x4x128x128, .f32⟩
  | 107 => ⟨S8x4x128x128, .f32⟩
  | 108 => ⟨S4x128x1, .f32⟩
  | 109 => ⟨S1x4x128x1, .f32⟩
  | 110 => ⟨S8x4x128x128, .f32⟩
  | 111 => ⟨S8x4x128x128, .f32⟩
  | 112 => ⟨S8x4x128x128, .f32⟩
  | 113 => ⟨S8x4x128x128, .f32⟩
  | 114 => ⟨S4x1x1, .f32⟩
  | 115 => ⟨S1x4x1x1, .f32⟩
  | 116 => ⟨S8x4x128x128, .f32⟩
  | 117 => ⟨S8x4x128x128, .f32⟩
  | 118 => ⟨S4x128x1, .f32⟩
  | 119 => ⟨S1x4x128x1, .f32⟩
  | 120 => ⟨S8x4x128x128, .f32⟩
  | 121 => ⟨S8x4x128x128, .f32⟩
  | 122 => ⟨S8x4x128x128, .f32⟩
  | 123 => ⟨S8x4x128x128, .f32⟩
  | 124 => ⟨S1x8x4x128x128, .f32⟩
  | 125 => ⟨S_, .i32⟩
  | 126 => ⟨S_, .i32⟩
  | 127 => ⟨S_, .i32⟩
  | _ => ⟨S8x2048x512, .f32⟩

abbrev hbmTy0_1 (i : Nat) : BufTy := match i % 128 with
  | 0 => ⟨S_, .i32⟩
  | 1 => ⟨S16x8x4x128x128, .f32⟩
  | 2 => ⟨S_, .i32⟩
  | 3 => ⟨S_, .i32⟩
  | 4 => ⟨S8x16x128x4x128, .f32⟩
  | 5 => ⟨S8x2048x4x128, .f32⟩
  | 6 => ⟨S8x2048x512, .f32⟩
  | _ => ⟨S8x2048x512, .f32⟩

abbrev hbmTy (i : Nat) : BufTy := match i / 128 with
  | 0 => hbmTy0_0 i
  | 1 => hbmTy0_1 i
  | _ => ⟨S8x2048x512, .f32⟩

abbrev bufTy : (tb : Table) → Fin (tcTables nBuf tb) → BufTy
  | .hbm, ⟨i, _⟩ => hbmTy i
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_9 : Ref sig .tc := ⟨.hbm, 70, rfl⟩
abbrev main_v54 : Ref sig .tc := ⟨.hbm, 71, rfl⟩
abbrev main_c : Ref sig .tc := ⟨.hbm, 72, rfl⟩
abbrev main_v55_0 : Ref sig .tc := ⟨.hbm, 73, rfl⟩
abbrev main_v55_1 : Ref sig .tc := ⟨.hbm, 74, rfl⟩
abbrev main_v55_2 : Ref sig .tc := ⟨.hbm, 75, rfl⟩
abbrev main_v55_3 : Ref sig .tc := ⟨.hbm, 76, rfl⟩
abbrev main_v55_4 : Ref sig .tc := ⟨.hbm, 77, rfl⟩
abbrev main_v55_5 : Ref sig .tc := ⟨.hbm, 78, rfl⟩
abbrev main_v55_6 : Ref sig .tc := ⟨.hbm, 79, rfl⟩
abbrev main_v55_7 : Ref sig .tc := ⟨.hbm, 80, rfl⟩
abbrev main_v55_8 : Ref sig .tc := ⟨.hbm, 81, rfl⟩
abbrev main_v55_9 : Ref sig .tc := ⟨.hbm, 82, rfl⟩
abbrev main_while0c_c_19 : Ref sig .tc := ⟨.hbm, 83, rfl⟩
abbrev main_while0c_v59 : Ref sig .tc := ⟨.hbm, 84, rfl⟩
abbrev main_while0b_call1_c : Ref sig .tc := ⟨.hbm, 85, rfl⟩
abbrev main_while0b_call1_c_0 : Ref sig .tc := ⟨.hbm, 86, rfl⟩
abbrev main_while0b_call1_c_1 : Ref sig .tc := ⟨.hbm, 87, rfl⟩
abbrev main_while0b_call1_c_2 : Ref sig .tc := ⟨.hbm, 88, rfl⟩
abbrev main_while0b_call1_v0 : Ref sig .tc := ⟨.hbm, 89, rfl⟩
abbrev main_while0b_v59 : Ref sig .tc := ⟨.hbm, 90, rfl⟩
abbrev main_while0b_call2_c : Ref sig .tc := ⟨.hbm, 91, rfl⟩
abbrev main_while0b_call2_c_0 : Ref sig .tc := ⟨.hbm, 92, rfl⟩
abbrev main_while0b_call2_c_1 : Ref sig .tc := ⟨.hbm, 93, rfl⟩
abbrev main_while0b_call2_c_2 : Ref sig .tc := ⟨.hbm, 94, rfl⟩
abbrev main_while0b_call2_v0 : Ref sig .tc := ⟨.hbm, 95, rfl⟩
abbrev main_while0b_v60 : Ref sig .tc := ⟨.hbm, 96, rfl⟩
abbrev main_while0b_call3_c : Ref sig .tc := ⟨.hbm, 97, rfl⟩
abbrev main_while0b_call3_c_0 : Ref sig .tc := ⟨.hbm, 98, rfl⟩
abbrev main_while0b_call3_c_1 : Ref sig .tc := ⟨.hbm, 99, rfl⟩
abbrev main_while0b_call3_c_2 : Ref sig .tc := ⟨.hbm, 100, rfl⟩
abbrev main_while0b_call3_v0 : Ref sig .tc := ⟨.hbm, 101, rfl⟩
abbrev main_while0b_v61 : Ref sig .tc := ⟨.hbm, 102, rfl⟩
abbrev main_while0b_v62 : Ref sig .tc := ⟨.hbm, 103, rfl⟩
abbrev main_while0b_v63 : Ref sig .tc := ⟨.hbm, 104, rfl⟩
abbrev main_while0b_v64 : Ref sig .tc := ⟨.hbm, 105, rfl⟩
abbrev main_while0b_v65 : Ref sig .tc := ⟨.hbm, 106, rfl⟩
abbrev main_while0b_v66 : Ref sig .tc := ⟨.hbm, 107, rfl⟩
abbrev main_while0b_v67 : Ref sig .tc := ⟨.hbm, 108, rfl⟩
abbrev main_while0b_v68 : Ref sig .tc := ⟨.hbm, 109, rfl⟩
abbrev main_while0b_v69 : Ref sig .tc := ⟨.hbm, 110, rfl⟩
abbrev main_while0b_v70 : Ref sig .tc := ⟨.hbm, 111, rfl⟩
abbrev main_while0b_v71 : Ref sig .tc := ⟨.hbm, 112, rfl⟩
abbrev main_while0b_v72 : Ref sig .tc := ⟨.hbm, 113, rfl⟩
abbrev main_while0b_v73 : Ref sig .tc := ⟨.hbm, 114, rfl⟩
abbrev main_while0b_v74 : Ref sig .tc := ⟨.hbm, 115, rfl⟩
abbrev main_while0b_v75 : Ref sig .tc := ⟨.hbm, 116, rfl⟩
abbrev main_while0b_v76 : Ref sig .tc := ⟨.hbm, 117, rfl⟩
abbrev main_while0b_v77 : Ref sig .tc := ⟨.hbm, 118, rfl⟩
abbrev main_while0b_v78 : Ref sig .tc := ⟨.hbm, 119, rfl⟩
abbrev main_while0b_v79 : Ref sig .tc := ⟨.hbm, 120, rfl⟩
abbrev main_while0b_v80 : Ref sig .tc := ⟨.hbm, 121, rfl⟩
abbrev main_while0b_v81 : Ref sig .tc := ⟨.hbm, 122, rfl⟩
abbrev main_while0b_v82 : Ref sig .tc := ⟨.hbm, 123, rfl⟩
abbrev main_while0b_call4_v0 : Ref sig .tc := ⟨.hbm, 124, rfl⟩
abbrev main_while0b_call4_c : Ref sig .tc := ⟨.hbm, 125, rfl⟩
abbrev main_while0b_call4_c_0 : Ref sig .tc := ⟨.hbm, 126, rfl⟩
abbrev main_while0b_call4_c_1 : Ref sig .tc := ⟨.hbm, 127, rfl⟩
abbrev main_while0b_call4_c_2 : Ref sig .tc := ⟨.hbm, 128, rfl⟩
abbrev main_while0b_v83 : Ref sig .tc := ⟨.hbm, 129, rfl⟩
abbrev main_while0b_c_19 : Ref sig .tc := ⟨.hbm, 130, rfl⟩
abbrev main_while0b_v84 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩

abbrev nD : Nat := 1
abbrev τ : Topo := Topo.v7x

variable {F : FTy → Type} [FloatOps F]

abbrev main_while0_count : Scf.Loop 32 := ⟨0#32, 16#32, 1#32⟩
-- ==== FfnUp.lean ====
abbrev S16896x1024 : Shape := ⟨2, ![16896, 1024]⟩
abbrev S1024 : Shape := ⟨1, ![1024]⟩
abbrev S1024x5632 : Shape := ⟨2, ![1024, 5632]⟩
abbrev S1x1024 : Shape := ⟨2, ![1, 1024]⟩
abbrev S16896x5632 : Shape := ⟨2, ![16896, 5632]⟩
abbrev S512x1024 : Shape := ⟨2, ![512, 1024]⟩
abbrev S1024x1408 : Shape := ⟨2, ![1024, 1408]⟩
abbrev S512x1408 : Shape := ⟨2, ![512, 1408]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x5632, .f32⟩
  | .hbm, ⟨3, _⟩ => ⟨S1024x5632, .bf16⟩
  | .hbm, ⟨4, _⟩ => ⟨S1x1024, .f32⟩
  | .hbm, ⟨5, _⟩ => ⟨S16896x5632, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S512x1408, .f32⟩
  | .local _ .vmem, ⟨6, _⟩ => ⟨S512x1408, .f32⟩
  | .local _ .vmem, ⟨7, _⟩ => ⟨S512x1024, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![33, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpRefIdeal.lean ====
abbrev S16896x1024 : Shape := ⟨2, ![16896, 1024]⟩
abbrev S1024 : Shape := ⟨1, ![1024]⟩
abbrev S1024x5632 : Shape := ⟨2, ![1024, 5632]⟩
abbrev S_ : Shape := ⟨0, ![]⟩
abbrev S16896 : Shape := ⟨1, ![16896]⟩
abbrev S16896x1 : Shape := ⟨2, ![16896, 1]⟩
abbrev S1x1024 : Shape := ⟨2, ![1, 1024]⟩
abbrev S16896x5632 : Shape := ⟨2, ![16896, 5632]⟩

abbrev nBuf : Space → Nat
  | .hbm => 20
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x5632, .f32⟩
  | .hbm, ⟨3, _⟩ => ⟨S16896x1024, .f32⟩
  | .hbm, ⟨4, _⟩ => ⟨S_, .f32⟩
  | .hbm, ⟨5, _⟩ => ⟨S16896, .f32⟩
  | .hbm, ⟨6, _⟩ => ⟨S16896x1, .f32⟩
  | .hbm, ⟨7, _⟩ => ⟨S_, .f32⟩
  | .hbm, ⟨8, _⟩ => ⟨S16896x1, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S16896x1, .f32⟩
  | .hbm, ⟨14, _⟩ => ⟨S16896x1024, .f32⟩
  | .hbm, ⟨15, _⟩ => ⟨S16896x1024, .f32⟩
  | .hbm, ⟨16, _⟩ => ⟨S1x1024, .f32⟩
  | .hbm, ⟨17, _⟩ => ⟨S16896x1024, .f32⟩
  | .hbm, ⟨18, _⟩ => ⟨S16896x1024, .f32⟩
  | .hbm, ⟨19, _⟩ => ⟨S16896x5632, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== FfnDown.lean ====
abbrev S16896x5632 : Shape := ⟨2, ![16896, 5632]⟩
abbrev S128x2x2816 : Shape := ⟨3, ![128, 2, 2816]⟩
abbrev S3x2816 : Shape := ⟨2, ![3, 2816]⟩
abbrev S2816 : Shape := ⟨1, ![2816]⟩
abbrev S2816x1024 : Shape := ⟨2, ![2816, 1024]⟩
abbrev S16896x1024 : Shape := ⟨2, ![16896, 1024]⟩
abbrev S16384x2816 : Shape := ⟨2, ![16384, 2816]⟩
abbrev S8x2048x2816 : Shape := ⟨3, ![8, 2048, 2816]⟩
abbrev S512x2816 : Shape := ⟨2, ![512, 2816]⟩
abbrev S128x4x2816 : Shape := ⟨3, ![128, 4, 2816]⟩
abbrev S128x6x2816 : Shape := ⟨3, ![128, 6, 2816]⟩
abbrev S8x2047x2816 : Shape := ⟨3, ![8, 2047, 2816]⟩
abbrev S_ : Shape := ⟨0, ![]⟩
abbrev S16896x2816 : Shape := ⟨2, ![16896, 2816]⟩
abbrev S8x2046x2816 : Shape := ⟨3, ![8, 2046, 2816]⟩
abbrev S1x2816 : Shape := ⟨2, ![1, 2816]⟩
abbrev S256x2816 : Shape := ⟨2, ![256, 2816]⟩
abbrev S256x1024 : Shape := ⟨2, ![256, 1024]⟩

abbrev nBuf : Space → Nat
  | .hbm => 30
  | .vmem => 15
  | .smem => 0
  | _ => 0

abbrev bufTy : (tb : Table) → Fin (tcTables nBuf tb) → BufTy
  | .hbm, ⟨0, _⟩ => ⟨S16896x5632, .f32⟩
  | .hbm, ⟨1, _⟩ => ⟨S128x2x2816, .f32⟩
  | .hbm, ⟨2, _⟩ => ⟨S3x2816, .f32⟩
  | .hbm, ⟨3, _⟩ => ⟨S2816, .f32⟩
  | .hbm, ⟨4, _⟩ => ⟨S2816x1024, .f32⟩
  | .hbm, ⟨5, _⟩ => ⟨S16896x1024, .f32⟩
  | .hbm, ⟨6, _⟩ => ⟨S16384x2816, .f32⟩
  | .hbm, ⟨7, _⟩ => ⟨S8x2048x2816, .f32⟩
  | .hbm, ⟨8, _⟩ => ⟨S512x2816, .f32⟩
  | .hbm, ⟨9, _⟩ => ⟨S128x4x2816, .f32⟩
  | .hbm, ⟨10, _⟩ => ⟨S128x6x2816, .f32⟩
  | .hbm, ⟨11, _⟩ => ⟨S8x2047x2816, .f32⟩
  | .hbm, ⟨12, _⟩ => ⟨S_, .i32⟩
  | .hbm, ⟨13, _⟩ => ⟨S_, .f32⟩
  | .hbm, ⟨14, _⟩ => ⟨S8x2048x2816, .f32⟩
  | .hbm, ⟨15, _⟩ => ⟨S16384x2816, .f32⟩
  | .hbm, ⟨16, _⟩ => ⟨S128x4x2816, .f32⟩
  | .hbm, ⟨17, _⟩ => ⟨S512x2816, .f32⟩
  | .hbm, ⟨18, _⟩ => ⟨S16896x2816, .f32⟩
  | .hbm, ⟨19, _⟩ => ⟨S8x2046x2816, .f32⟩
  | .hbm, ⟨20, _⟩ => ⟨S_, .i32⟩
  | .hbm, ⟨21, _⟩ => ⟨S_, .f32⟩
  | .hbm, ⟨22, _⟩ => ⟨S8x2048x2816, .f32⟩
  | .hbm, ⟨23, _⟩ => ⟨S16384x2816, .f32⟩
  | .hbm, ⟨24, _⟩ => ⟨S128x4x2816, .f32⟩
  | .hbm, ⟨25, _⟩ => ⟨S512x2816, .f32⟩
  | .hbm, ⟨26, _⟩ => ⟨S16896x2816, .f32⟩
  | .hbm, ⟨27, _⟩ => ⟨S2816x1024, .bf16⟩
  | .hbm, ⟨28, _⟩ => ⟨S1x2816, .f32⟩
  | .hbm, ⟨29, _⟩ => ⟨S16896x1024, .f32⟩
  | .local _ .vmem, ⟨0, _⟩ => ⟨S256x2816, .f32⟩
  | .local _ .vmem, ⟨1, _⟩ => ⟨S256x2816, .f32⟩
  | .local _ .vmem, ⟨2, _⟩ => ⟨S256x2816, .f32⟩
  | .local _ .vmem, ⟨3, _⟩ => ⟨S256x2816, .f32⟩
  | .local _ .vmem, ⟨4, _⟩ => ⟨S256x2816, .f32⟩
  | .local _ .vmem, ⟨5, _⟩ => ⟨S256x2816, .f32⟩
  | .local _ .vmem, ⟨6, _⟩ => ⟨S256x2816, .f32⟩
  | .local _ .vmem, ⟨7, _⟩ => ⟨S256x2816, .f32⟩
  | .local _ .vmem, ⟨8, _⟩ => ⟨S3x2816, .f32⟩
  | .local _ .vmem, ⟨9, _⟩ => ⟨S1x2816, .f32⟩
  | .local _ .vmem, ⟨10, _⟩ => ⟨S2816x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | _, _ => ⟨S16896x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnDownRefIdeal.lean ====
abbrev S16896x5632 : Shape := ⟨2, ![16896, 5632]⟩
abbrev S128x2x2816 : Shape := ⟨3, ![128, 2, 2816]⟩
abbrev S3x2816 : Shape := ⟨2, ![3, 2816]⟩
abbrev S2816 : Shape := ⟨1, ![2816]⟩
abbrev S2816x1024 : Shape := ⟨2, ![2816, 1024]⟩
abbrev S16896x1024 : Shape := ⟨2, ![16896, 1024]⟩
abbrev S16384x5632 : Shape := ⟨2, ![16384, 5632]⟩
abbrev S8x2048x5632 : Shape := ⟨3, ![8, 2048, 5632]⟩
abbrev S_ : Shape := ⟨0, ![]⟩
abbrev S8x2x2816 : Shape := ⟨3, ![8, 2, 2816]⟩
abbrev S8x2048x2816 : Shape := ⟨3, ![8, 2048, 2816]⟩
abbrev S8x2050x2816 : Shape := ⟨3, ![8, 2050, 2816]⟩
abbrev S1x2816 : Shape := ⟨2, ![1, 2816]⟩
abbrev S1x1x2816 : Shape := ⟨3, ![1, 1, 2816]⟩
abbrev S8x2048x1024 : Shape := ⟨3, ![8, 2048, 1024]⟩
abbrev S512x5632 : Shape := ⟨2, ![512, 5632]⟩
abbrev S128x4x5632 : Shape := ⟨3, ![128, 4, 5632]⟩
abbrev S128x4x2816 : Shape := ⟨3, ![128, 4, 2816]⟩
abbrev S128x6x2816 : Shape := ⟨3, ![128, 6, 2816]⟩
abbrev S128x4x1024 : Shape := ⟨3, ![128, 4, 1024]⟩
abbrev S16384x1024 : Shape := ⟨2, ![16384, 1024]⟩
abbrev S512x1024 : Shape := ⟨2, ![512, 1024]⟩

abbrev nBuf : Space → Nat
  | .hbm => 90
  | .vmem => 0
  | .smem => 0
  | _ => 0

abbrev bufTy : (tb : Table) → Fin (tcTables nBuf tb) → BufTy
  | .hbm, ⟨0, _⟩ => ⟨S16896x5632, .f32⟩
  | .hbm, ⟨1, _⟩ => ⟨S128x2x2816, .f32⟩
  | .hbm, ⟨2, _⟩ => ⟨S3x2816, .f32⟩
  | .hbm, ⟨3, _⟩ => ⟨S2816, .f32⟩
  | .hbm, ⟨4, _⟩ => ⟨S2816x1024, .f32⟩
  | .hbm, ⟨5, _⟩ => ⟨S16896x1024, .f32⟩
  | .hbm, ⟨6, _⟩ => ⟨S16384x5632, .f32⟩
  | .hbm, ⟨7, _⟩ => ⟨S8x2048x5632, .f32⟩
  | .hbm, ⟨8, _⟩ => ⟨S_, .f32⟩
  | .hbm, ⟨9, _⟩ => ⟨S8x2x2816, .f32⟩
  | .hbm, ⟨10, _⟩ => ⟨S8x2048x2816, .f32⟩
  | .hbm, ⟨11, _⟩ => ⟨S8x2048x2816, .f32⟩
  | .hbm, ⟨12, _⟩ => ⟨S8x2050x2816, .f32⟩
  | .hbm, ⟨13, _⟩ => ⟨S8x2048x2816, .f32⟩
  | .hbm, ⟨14, _⟩ => ⟨S1x2816, .f32⟩
  | .hbm, ⟨15, _⟩ => ⟨S2816, .f32⟩
  | .hbm, ⟨16, _⟩ => ⟨S1x1x2816, .f32⟩
  | .hbm, ⟨17, _⟩ => ⟨S8x2048x2816, .f32⟩
  | .hbm, ⟨18, _⟩ => ⟨S8x2048x2816, .f32⟩
  | .hbm, ⟨19, _⟩ => ⟨S1x1x2816, .f32⟩
  | .hbm, ⟨20, _⟩ => ⟨S8x2048x2816, .f32⟩
  | .hbm, ⟨21, _⟩ => ⟨S8x2048x2816, .f32⟩
  | .hbm, ⟨22, _⟩ => ⟨S8x2048x2816, .f32⟩
  | .hbm, ⟨23, _⟩ => ⟨S1x2816, .f32⟩
  | .hbm, ⟨24, _⟩ => ⟨S2816, .f32⟩
  | .hbm, ⟨25, _⟩ => ⟨S1x1x2816, .f32⟩
  | .hbm, ⟨26, _⟩ => ⟨S8x2048x2816, .f32⟩
  | .hbm, ⟨27, _⟩ => ⟨S8x2048x2816, .f32⟩
  | .hbm, ⟨28, _⟩ => ⟨S8x2048x2816, .f32⟩
  | .hbm, ⟨29, _⟩ => ⟨S8x2048x2816, .f32⟩
  | .hbm, ⟨30, _⟩ => ⟨S1x2816, .f32⟩
  | .hbm, ⟨31, _⟩ => ⟨S2816, .f32⟩
  | .hbm, ⟨32, _⟩ => ⟨S1x1x2816, .f32⟩
  | .hbm, ⟨33, _⟩ => ⟨S8x2048x2816, .f32⟩
  | .hbm, ⟨34, _⟩ => ⟨S8x2048x2816, .f32⟩
  | .hbm, ⟨35, _⟩ => ⟨S8x2048x2816, .f32⟩
  | .hbm, ⟨36, _⟩ => ⟨S8x2048x2816, .f32⟩
  | .hbm, ⟨37, _⟩ => ⟨S8x2048x2816, .f32⟩
  | .hbm, ⟨38, _⟩ => ⟨S_, .f32⟩
  | .hbm, ⟨39, _⟩ => ⟨S8x2048x2816, .f32⟩
  | .hbm, ⟨40, _⟩ => ⟨S8x2048x2816, .f32⟩
  | .hbm, ⟨41, _⟩ => ⟨S_, .f32⟩
  | .hbm, ⟨42, _⟩ => ⟨S8x2048x2816, .f32⟩
  | .hbm, ⟨43, _⟩ => ⟨S8x2048x2816, .f32⟩
  | .hbm, ⟨44, _⟩ => ⟨S8x2048x2816, .f32⟩
  | .hbm, ⟨45, _⟩ => ⟨S8x2048x2816, .f32⟩
  | .hbm, ⟨46, _⟩ => ⟨S8x2048x1024, .f32⟩
  | .hbm, ⟨47, _⟩ => ⟨S512x5632, .f32⟩
  | .hbm, ⟨48, _⟩ => ⟨S128x4x5632, .f32⟩
  | .hbm, ⟨49, _⟩ => ⟨S128x4x2816, .f32⟩
  | .hbm, ⟨50, _⟩ => ⟨S128x4x2816, .f32⟩
  | .hbm, ⟨51, _⟩ => ⟨S128x6x2816, .f32⟩
  | .hbm, ⟨52, _⟩ => ⟨S128x4x2816, .f32⟩
  | .hbm, ⟨53, _⟩ => ⟨S1x2816, .f32⟩
  | .hbm, ⟨54, _⟩ => ⟨S2816, .f32⟩
  | .hbm, ⟨55, _⟩ => ⟨S1x1x2816, .f32⟩
  | .hbm, ⟨56, _⟩ => ⟨S128x4x2816, .f32⟩
  | .hbm, ⟨57, _⟩ => ⟨S128x4x2816, .f32⟩
  | .hbm, ⟨58, _⟩ => ⟨S1x1x2816, .f32⟩
  | .hbm, ⟨59, _⟩ => ⟨S128x4x2816, .f32⟩
  | .hbm, ⟨60, _⟩ => ⟨S128x4x2816, .f32⟩
  | .hbm, ⟨61, _⟩ => ⟨S128x4x2816, .f32⟩
  | .hbm, ⟨62, _⟩ => ⟨S1x2816, .f32⟩
  | .hbm, ⟨63, _⟩ => ⟨S2816, .f32⟩
  | .hbm, ⟨64, _⟩ => ⟨S1x1x2816, .f32⟩
  | .hbm, ⟨65, _⟩ => ⟨S128x4x2816, .f32⟩
  | .hbm, ⟨66, _⟩ => ⟨S128x4x2816, .f32⟩
  | .hbm, ⟨67, _⟩ => ⟨S128x4x2816, .f32⟩
  | .hbm, ⟨68, _⟩ => ⟨S128x4x2816, .f32⟩
  | .hbm, ⟨69, _⟩ => ⟨S1x2816, .f32⟩
  | .hbm, ⟨70, _⟩ => ⟨S2816, .f32⟩
  | .hbm, ⟨71, _⟩ => ⟨S1x1x2816, .f32⟩
  | .hbm, ⟨72, _⟩ => ⟨S128x4x2816, .f32⟩
  | .hbm, ⟨73, _⟩ => ⟨S128x4x2816, .f32⟩
  | .hbm, ⟨74, _⟩ => ⟨S128x4x2816, .f32⟩
  | .hbm, ⟨75, _⟩ => ⟨S128x4x2816, .f32⟩
  | .hbm, ⟨76, _⟩ => ⟨S128x4x2816, .f32⟩
  | .hbm, ⟨77, _⟩ => ⟨S_, .f32⟩
  | .hbm, ⟨78, _⟩ => ⟨S128x4x2816, .f32⟩
  | .hbm, ⟨79, _⟩ => ⟨S128x4x2816, .f32⟩
  | .hbm, ⟨80, _⟩ => ⟨S_, .f32⟩
  | .hbm, ⟨81, _⟩ => ⟨S128x4x2816, .f32⟩
  | .hbm, ⟨82, _⟩ => ⟨S128x4x2816, .f32⟩
  | .hbm, ⟨83, _⟩ => ⟨S128x4x2816, .f32⟩
  | .hbm, ⟨84, _⟩ => ⟨S128x4x2816, .f32⟩
  | .hbm, ⟨85, _⟩ => ⟨S128x4x1024, .f32⟩
  | .hbm, ⟨86, _⟩ => ⟨S16384x1024, .f32⟩
  | .hbm, ⟨87, _⟩ => ⟨S512x1024, .f32⟩
  | .hbm, ⟨88, _⟩ => ⟨S16896x1024, .f32⟩
  | .hbm, ⟨89, _⟩ => ⟨S16896x1024, .f32⟩
  | _, _ => ⟨S16896x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_call1_v0 : Ref sig .tc := ⟨.hbm, 75, rfl⟩
abbrev main_call1_v1 : Ref sig .tc := ⟨.hbm, 76, rfl⟩
abbrev main_call1_cst : Ref sig .tc := ⟨.hbm, 77, rfl⟩
abbrev main_call1_v2 : Ref sig .tc := ⟨.hbm, 78, rfl⟩
abbrev main_call1_v3 : Ref sig .tc := ⟨.hbm, 79, rfl⟩
abbrev main_call1_cst_0 : Ref sig .tc := ⟨.hbm, 80, rfl⟩
abbrev main_call1_v4 : Ref sig .tc := ⟨.hbm, 81, rfl⟩
abbrev main_call1_v5 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩

abbrev nD : Nat := 1
abbrev τ : Topo := Topo.v7x

variable {F : FTy → Type} [FloatOps F]
-- ==== FinalNorm.lean ====
abbrev S16896x1024 : Shape := ⟨2, ![16896, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1x1024, .f32⟩
  | .hbm, ⟨3, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S16896x1024 : Shape := ⟨2, ![16896, 1024]⟩
abbrev S1024 : Shape := ⟨1, ![1024]⟩
abbrev S_ : Shape := ⟨0, ![]⟩
abbrev S16896 : Shape := ⟨1, ![16896]⟩
abbrev S16896x1 : Shape := ⟨2, ![16896, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S16896x1024, .f32⟩
  | .hbm, ⟨3, _⟩ => ⟨S_, .f32⟩
  | .hbm, ⟨4, _⟩ => ⟨S16896, .f32⟩
  | .hbm, ⟨5, _⟩ => ⟨S16896x1, .f32⟩
  | .hbm, ⟨6, _⟩ => ⟨S_, .f32⟩
  | .hbm, ⟨7, _⟩ => ⟨S16896x1, .f32⟩
  | .hbm, ⟨8, _⟩ => ⟨S16896x1, .f32⟩
  | .hbm, ⟨9, _⟩ => ⟨S_, .f32⟩
  | .hbm, ⟨10, _⟩ => ⟨S16896x1, .f32⟩
  | .hbm, ⟨11, _⟩ => ⟨S16896x1, .f32⟩
  | .hbm, ⟨12, _⟩ => ⟨S16896x1, .f32⟩
  | .hbm, ⟨13, _⟩ => ⟨S16896x1024, .f32⟩
  | .hbm, ⟨14, _⟩ => ⟨S16896x1024, .f32⟩
  | .hbm, ⟨15, _⟩ => ⟨S1x1024, .f32⟩
  | .hbm, ⟨16, _⟩ => ⟨S16896x1024, .f32⟩
  | .hbm, ⟨17, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== EvenIn.lean ====
abbrev S16896x1024 : Shape := ⟨2, ![16896, 1024]⟩
abbrev S1024 : Shape := ⟨1, ![1024]⟩
abbrev S1024x2720 : Shape := ⟨2, ![1024, 2720]⟩
abbrev S256 : Shape := ⟨1, ![256]⟩
abbrev S1024x640 : Shape := ⟨2, ![1024, 640]⟩
abbrev S1024x2048 : Shape := ⟨2, ![1024, 2048]⟩
abbrev S1024x32 : Shape := ⟨2, ![1024, 32]⟩
abbrev S_ : Shape := ⟨0, ![]⟩
abbrev S1024x96 : Shape := ⟨2, ![1024, 96]⟩
abbrev S1024x2816 : Shape := ⟨2, ![1024, 2816]⟩
abbrev S2048 : Shape := ⟨1, ![2048]⟩
abbrev S1x2048 : Shape := ⟨2, ![1, 2048]⟩
abbrev S8x2048 : Shape := ⟨2, ![8, 2048]⟩
abbrev S16384 : Shape := ⟨1, ![16384]⟩
abbrev S4 : Shape := ⟨1, ![4]⟩
abbrev S1x4 : Shape := ⟨2, ![1, 4]⟩
abbrev S128x4 : Shape := ⟨2, ![128, 4]⟩
abbrev S512 : Shape := ⟨1, ![512]⟩
abbrev S16896 : Shape := ⟨1, ![16896]⟩
abbrev S16 : Shape := ⟨1, ![16]⟩
abbrev S16896x1 : Shape := ⟨2, ![16896, 1]⟩
abbrev S1x16 : Shape := ⟨2, ![1, 16]⟩
abbrev S16896x16 : Shape := ⟨2, ![16896, 16]⟩
abbrev S16896x1x16 : Shape := ⟨3, ![16896, 1, 16]⟩
abbrev S1x1024 : Shape := ⟨2, ![1, 1024]⟩
abbrev S16896x2816 : Shape := ⟨2, ![16896, 2816]⟩
abbrev S512x1024 : Shape := ⟨2, ![512, 1024]⟩
abbrev S1024x1408 : Shape := ⟨2, ![1024, 1408]⟩
abbrev S512x1408 : Shape := ⟨2, ![512, 1408]⟩
abbrev S512x1 : Shape := ⟨2, ![512, 1]⟩
abbrev S16896x256 : Shape := ⟨2, ![16896, 256]⟩
abbrev S1x256 : Shape := ⟨2, ![1, 256]⟩
abbrev S16896x32 : Shape := ⟨2, ![16896, 32]⟩
abbrev S16896x1x32 : Shape := ⟨3, ![16896, 1, 32]⟩
abbrev S16384x256 : Shape := ⟨2, ![16384, 256]⟩
abbrev S8x2048x256 : Shape := ⟨3, ![8, 2048, 256]⟩
abbrev S512x256 : Shape := ⟨2, ![512, 256]⟩
abbrev S128x4x256 : Shape := ⟨3, ![128, 4, 256]⟩
abbrev S16384x32 : Shape := ⟨2, ![16384, 32]⟩
abbrev S8x2048x32 : Shape := ⟨3, ![8, 2048, 32]⟩
abbrev S512x32 : Shape := ⟨2, ![512, 32]⟩
abbrev S128x4x32 : Shape := ⟨3, ![128, 4, 32]⟩

abbrev nBuf : Space → Nat
  | .hbm => 80
  | .vmem => 8
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x2720, .f32⟩
  | .hbm, ⟨3, _⟩ => ⟨S256, .f32⟩
  | .hbm, ⟨4, _⟩ => ⟨S1024x640, .f32⟩
  | .hbm, ⟨5, _⟩ => ⟨S1024x2048, .f32⟩
  | .hbm, ⟨6, _⟩ => ⟨S1024x32, .f32⟩
  | .hbm, ⟨7, _⟩ => ⟨S_, .f32⟩
  | .hbm, ⟨8, _⟩ => ⟨S1024x96, .f32⟩
  | .hbm, ⟨9, _⟩ => ⟨S1024x2816, .f32⟩
  | .hbm, ⟨10, _⟩ => ⟨S1024x2816, .bf16⟩
  | .hbm, ⟨11, _⟩ => ⟨S2048, .i32⟩
  | .hbm, ⟨12, _⟩ => ⟨S1x2048, .i32⟩
  | .hbm, ⟨13, _⟩ => ⟨S8x2048, .i32⟩
  | .hbm, ⟨14, _⟩ => ⟨S16384, .i32⟩
  | .hbm, ⟨15, _⟩ => ⟨S4, .i32⟩
  | .hbm, ⟨16, _⟩ => ⟨S_, .i32⟩
  | .hbm, ⟨17, _⟩ => ⟨S4, .i32⟩
  | .hbm, ⟨18, _⟩ => ⟨S4, .i32⟩
  | .hbm, ⟨19, _⟩ => ⟨S1x4, .i32⟩
  | .hbm, ⟨20, _⟩ => ⟨S128x4, .i32⟩
  | .hbm, ⟨21, _⟩ => ⟨S512, .i32⟩
  | .hbm, ⟨22, _⟩ => ⟨S16896, .i32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S16896, .f32⟩
  | .hbm, ⟨32, _⟩ => ⟨S16896x1, .f32⟩
  | .hbm, ⟨33, _⟩ => ⟨S1x16, .f32⟩
  | .hbm, ⟨34, _⟩ => ⟨S16896x16, .f32⟩
  | .hbm, ⟨35, _⟩ => ⟨S16896x16, .f32⟩
  | .hbm, ⟨36, _⟩ => ⟨S16896x16, .f32⟩
  | .hbm, ⟨37, _⟩ => ⟨S16896x16, .f32⟩
  | .hbm, ⟨38, _⟩ => ⟨S16896x1x16, .f32⟩
  | .hbm, ⟨39, _⟩ => ⟨S16896x16, .f32⟩
  | .hbm, ⟨40, _⟩ => ⟨S16896x1x16, .f32⟩
  | .hbm, ⟨41, _⟩ => ⟨S1x1024, .f32⟩
  | .hbm, ⟨42, _⟩ => ⟨S16896x2816, .f32⟩
  | .hbm, ⟨43, _⟩ => ⟨S16896x256, .f32⟩
  | .hbm, ⟨44, _⟩ => ⟨S16896x256, .f32⟩
  | .hbm, ⟨45, _⟩ => ⟨S_, .f32⟩
  | .hbm, ⟨46, _⟩ => ⟨S16896, .f32⟩
  | .hbm, ⟨47, _⟩ => ⟨S16896x1, .f32⟩
  | .hbm, ⟨48, _⟩ => ⟨S_, .f32⟩
  | .hbm, ⟨49, _⟩ => ⟨S16896x1, .f32⟩
  | .hbm, ⟨50, _⟩ => ⟨S16896x1, .f32⟩
  | .hbm, ⟨51, _⟩ => ⟨S_, .f32⟩
  | .hbm, ⟨52, _⟩ => ⟨S16896x1, .f32⟩
  | .hbm, ⟨53, _⟩ => ⟨S16896x1, .f32⟩
  | .hbm, ⟨54, _⟩ => ⟨S16896x1, .f32⟩
  | .hbm, ⟨55, _⟩ => ⟨S16896x256, .f32⟩
  | .hbm, ⟨56, _⟩ => ⟨S16896x256, .f32⟩
  | .hbm, ⟨57, _⟩ => ⟨S1x256, .f32⟩
  | .hbm, ⟨58, _⟩ => ⟨S16896x256, .f32⟩
  | .hbm, ⟨59, _⟩ => ⟨S16896x256, .f32⟩
  | .hbm, ⟨60, _⟩ => ⟨S16896x32, .f32⟩
  | .hbm, ⟨61, _⟩ => ⟨S16896x1x32, .f32⟩
  | .hbm, ⟨62, _⟩ => ⟨S16896x1x16, .f32⟩
  | .hbm, ⟨63, _⟩ => ⟨S16896x1x16, .f32⟩
  | .hbm, ⟨64, _⟩ => ⟨S16896x1x16, .f32⟩
  | .hbm, ⟨65, _⟩ => ⟨S16896x1x16, .f32⟩
  | .hbm, ⟨66, _⟩ => ⟨S16896x1x16, .f32⟩
  | .hbm, ⟨67, _⟩ => ⟨S16896x1x16, .f32⟩
  | .hbm, ⟨68, _⟩ => ⟨S16896x1x16, .f32⟩
  | .hbm, ⟨69, _⟩ => ⟨S16896x1x16, .f32⟩
  | .hbm, ⟨70, _⟩ => ⟨S16896x1x32, .f32⟩
  | .hbm, ⟨71, _⟩ => ⟨S16896x32, .f32⟩
  | .hbm, ⟨72, _⟩ => ⟨S16384x256, .f32⟩
  | .hbm, ⟨73, _⟩ => ⟨S8x2048x256, .f32⟩
  | .hbm, ⟨74, _⟩ => ⟨S512x256, .f32⟩
  | .hbm, ⟨75, _⟩ => ⟨S128x4x256, .f32⟩
  | .hbm, ⟨76, _⟩ => ⟨S16384x32, .f32⟩
  | .hbm, ⟨77, _⟩ => ⟨S8x2048x32, .f32⟩
  | .hbm, ⟨78, _⟩ => ⟨S512x32, .f32⟩
  | .hbm, ⟨79, _⟩ => ⟨S128x4x32, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S512x1408, .f32⟩
  | .local _ .vmem, ⟨6, _⟩ => ⟨S512x1408, .f32⟩
  | .local _ .vmem, ⟨7, _⟩ => ⟨S512x1024, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![33, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== EvenInRefIdeal.lean ====
abbrev S16896x1024 : Shape := ⟨2, ![16896, 1024]⟩
abbrev S1024 : Shape := ⟨1, ![1024]⟩
abbrev S1024x2720 : Shape := ⟨2, ![1024, 2720]⟩
abbrev S256 : Shape := ⟨1, ![256]⟩
abbrev S_ : Shape := ⟨0, ![]⟩
abbrev S16896 : Shape := ⟨1, ![16896]⟩
abbrev S16896x1 : Shape := ⟨2, ![16896, 1]⟩
abbrev S1x1024 : Shape := ⟨2, ![1, 1024]⟩
abbrev S16896x2720 : Shape := ⟨2, ![16896, 2720]⟩
abbrev S16896x640 : Shape := ⟨2, ![16896, 640]⟩
abbrev S16896x2048 : Shape := ⟨2, ![16896, 2048]⟩
abbrev S16896x32 : Shape := ⟨2, ![16896, 32]⟩
abbrev S16896x96 : Shape := ⟨2, ![16896, 96]⟩
abbrev S16896x2816 : Shape := ⟨2, ![16896, 2816]⟩
abbrev S16384x2720 : Shape := ⟨2, ![16384, 2720]⟩
abbrev S8x2048x2720 : Shape := ⟨3, ![8, 2048, 2720]⟩
abbrev S512x2720 : Shape := ⟨2, ![512, 2720]⟩
abbrev S128x4x2720 : Shape := ⟨3, ![128, 4, 2720]⟩
abbrev S8x2048x256 : Shape := ⟨3, ![8, 2048, 256]⟩
abbrev S8x2048 : Shape := ⟨2, ![8, 2048]⟩
abbrev S8x2048x1 : Shape := ⟨3, ![8, 2048, 1]⟩
abbrev S1x1x256 : Shape := ⟨3, ![1, 1, 256]⟩
abbrev S128x4x256 : Shape := ⟨3, ![128, 4, 256]⟩
abbrev S128x4 : Shape := ⟨2, ![128, 4]⟩
abbrev S128x4x1 : Shape := ⟨3, ![128, 4, 1]⟩
abbrev S8x2048x32 : Shape := ⟨3, ![8, 2048, 32]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S8x2048x16 : Shape := ⟨3, ![8, 2048, 16]⟩
abbrev S1x2048x16 : Shape := ⟨3, ![1, 2048, 16]⟩
abbrev S128x4x32 : Shape := ⟨3, ![128, 4, 32]⟩
abbrev S4 : Shape := ⟨1, ![4]⟩
abbrev S4x1 : Shape := ⟨2, ![4, 1]⟩
abbrev S4x16 : Shape := ⟨2, ![4, 16]⟩
abbrev S128x4x16 : Shape := ⟨3, ![128, 4, 16]⟩
abbrev S1x4x16 : Shape := ⟨3, ![1, 4, 16]⟩

abbrev nBuf : Space → Nat
  | .hbm => 138
  | .vmem => 0
  | .smem => 0
  | _ => 0

abbrev hbmTy0_0 (i : Nat) : BufTy := match i % 128 with
  | 0 => ⟨S16896x1024, .f32⟩
  | 1 => ⟨S1024, .f32⟩
  | 2 => ⟨S1024x2720, .f32⟩
  | 3 => ⟨S256, .f32⟩
  | 4 => ⟨S16896x1024, .f32⟩
  | 5 => ⟨S_, .f32⟩
  | 6 => ⟨S16896, .f32⟩
  | 7 => ⟨S16896x1, .f32⟩
  | 8 => ⟨S_, .f32⟩
  | 9 => ⟨S16896x1, .f32⟩
  | 10 => ⟨S16896x1, .f32⟩
  | 11 => ⟨S_, .f32⟩
  | 12 => ⟨S16896x1, .f32⟩
  | 13 => ⟨S16896x1, .f32⟩
  | 14 => ⟨S16896x1, .f32⟩
  | 15 => ⟨S16896x1024, .f32⟩
  | 16 => ⟨S16896x1024, .f32⟩
  | 17 => ⟨S1x1024, .f32⟩
  | 18 => ⟨S16896x1024, .f32⟩
  | 19 => ⟨S16896x1024, .f32⟩
  | 20 => ⟨S16896x2720, .f32⟩
  | 21 => ⟨S16896x640, .f32⟩
  | 22 => ⟨S16896x2048, .f32⟩
  | 23 => ⟨S16896x32, .f32⟩
  | 24 => ⟨S_, .f32⟩
  | 25 => ⟨S16896x96, .f32⟩
  | 26 => ⟨S16896x2816, .f32⟩
  | 27 => ⟨S16384x2720, .f32⟩
  | 28 => ⟨S8x2048x2720, .f32⟩
  | 29 => ⟨S512x2720, .f32⟩
  | 30 => ⟨S128x4x2720, .f32⟩
  | 31 => ⟨S8x2048x256, .f32⟩
  | 32 => ⟨S8x2048x256, .f32⟩
  | 33 => ⟨S_, .f32⟩
  | 34 => ⟨S8x2048, .f32⟩
  | 35 => ⟨S8x2048x1, .f32⟩
  | 36 => ⟨S_, .f32⟩
  | 37 => ⟨S8x2048x1, .f32⟩
  | 38 => ⟨S8x2048x1, .f32⟩
  | 39 => ⟨S_, .f32⟩
  | 40 => ⟨S8x2048x1, .f32⟩
  | 41 => ⟨S8x2048x1, .f32⟩
  | 42 => ⟨S8x2048x1, .f32⟩
  | 43 => ⟨S8x2048x256, .f32⟩
  | 44 => ⟨S8x2048x256, .f32⟩
  | 45 => ⟨S1x1x256, .f32⟩
  | 46 => ⟨S8x2048x256, .f32⟩
  | 47 => ⟨S8x2048x256, .f32⟩
  | 48 => ⟨S128x4x256, .f32⟩
  | 49 => ⟨S128x4x256, .f32⟩
  | 50 => ⟨S_, .f32⟩
  | 51 => ⟨S128x4, .f32⟩
  | 52 => ⟨S128x4x1, .f32⟩
  | 53 => ⟨S_, .f32⟩
  | 54 => ⟨S128x4x1, .f32⟩
  | 55 => ⟨S128x4x1, .f32⟩
  | 56 => ⟨S_, .f32⟩
  | 57 => ⟨S128x4x1, .f32⟩
  | 58 => ⟨S128x4x1, .f32⟩
  | 59 => ⟨S128x4x1, .f32⟩
  | 60 => ⟨S128x4x256, .f32⟩
  | 61 => ⟨S128x4x256, .f32⟩
  | 62 => ⟨S1x1x256, .f32⟩
  | 63 => ⟨S128x4x256, .f32⟩
  | 64 => ⟨S128x4x256, .f32⟩
  | 65 => ⟨S8x2048x32, .f32⟩
  | 66 => ⟨S2048, .i32⟩
  | 67 => ⟨S16, .f32⟩
  | 68 => ⟨S16, .f32⟩
  | 69 => ⟨S_, .f32⟩
  | 70 => ⟨S16, .f32⟩
  | 71 => ⟨S16, .f32⟩
  | 72 => ⟨S_, .f32⟩
  | 73 => ⟨S16, .f32⟩
  | 74 => ⟨S16, .f32⟩
  | 75 => ⟨S2048, .f32⟩
  | 76 => ⟨S2048x1, .f32⟩
  | 77 => ⟨S1x16, .f32⟩
  | 78 => ⟨S2048x16, .f32⟩
  | 79 => ⟨S2048x16, .f32⟩
  | 80 => ⟨S2048x16, .f32⟩
  | 81 => ⟨S2048x16, .f32⟩
  | 82 => ⟨S2048x16, .f32⟩
  | 83 => ⟨S8x2048x16, .f32⟩
  | 84 => ⟨S8x2048x16, .f32⟩
  | 85 => ⟨S1x2048x16, .f32⟩
  | 86 => ⟨S8x2048x16, .f32⟩
  | 87 => ⟨S8x2048x16, .f32⟩
  | 88 => ⟨S1x2048x16, .f32⟩
  | 89 => ⟨S8x2048x16, .f32⟩
  | 90 => ⟨S8x2048x16, .f32⟩
  | 91 => ⟨S8x2048x16, .f32⟩
  | 92 => ⟨S1x2048x16, .f32⟩
  | 93 => ⟨S8x2048x16, .f32⟩
  | 94 => ⟨S8x2048x16, .f32⟩
  | 95 => ⟨S1x2048x16, .f32⟩
  | 96 => ⟨S8x2048x16, .f32⟩
  | 97 => ⟨S8x2048x16, .f32⟩
  | 98 => ⟨S8x2048x16, .f32⟩
  | 99 => ⟨S8x2048x32, .f32⟩
  | 100 => ⟨S128x4x32, .f32⟩
  | 101 => ⟨S4, .i32⟩
  | 102 => ⟨S_, .i32⟩
  | 103 => ⟨S4, .i32⟩
  | 104 => ⟨S4, .i32⟩
  | 105 => ⟨S16, .f32⟩
  | 106 => ⟨S16, .f32⟩
  | 107 => ⟨S_, .f32⟩
  | 108 => ⟨S16, .f32⟩
  | 109 => ⟨S16, .f32⟩
  | 110 => ⟨S_, .f32⟩
  | 111 => ⟨S16, .f32⟩
  | 112 => ⟨S16, .f32⟩
  | 113 => ⟨S4, .f32⟩
  | 114 => ⟨S4x1, .f32⟩
  | 115 => ⟨S1x16, .f32⟩
  | 116 => ⟨S4x16, .f32⟩
  | 117 => ⟨S4x16, .f32⟩
  | 118 => ⟨S4x16, .f32⟩
  | 119 => ⟨S4x16, .f32⟩
  | 120 => ⟨S4x16, .f32⟩
  | 121 => ⟨S128x4x16, .f32⟩
  | 122 => ⟨S128x4x16, .f32⟩
  | 123 => ⟨S1x4x16, .f32⟩
  | 124 => ⟨S128x4x16, .f32⟩
  | 125 => ⟨S128x4x16, .f32⟩
  | 126 => ⟨S1x4x16, .f32⟩
  | 127 => ⟨S128x4x16, .f32⟩
  | _ => ⟨S16896x1024, .f32⟩

abbrev hbmTy0_1 (i : Nat) : BufTy := match i % 128 with
  | 0 => ⟨S128x4x16, .f32⟩
  | 1 => ⟨S128x4x16, .f32⟩
  | 2 => ⟨S1x4x16, .f32⟩
  | 3 => ⟨S128x4x16, .f32⟩
  | 4 => ⟨S128x4x16, .f32⟩
  | 5 => ⟨S1x4x16, .f32⟩
  | 6 => ⟨S128x4x16, .f32⟩
  | 7 => ⟨S128x4x16, .f32⟩
  | 8 => ⟨S128x4x16, .f32⟩
  | 9 => ⟨S128x4x32, .f32⟩
  | _ => ⟨S16896x1024, .f32⟩

abbrev hbmTy (i : Nat) : BufTy := match i / 128 with
  | 0 => hbmTy0_0 i
  | 1 => hbmTy0_1 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_9 : Ref sig .tc := ⟨.hbm, 69, rfl⟩
abbrev main_v55 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_c : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_cst_11 : Ref sig .tc := ⟨.hbm, 107, rfl⟩
abbrev main_v90 : Ref sig .tc := ⟨.hbm, 108, rfl⟩
abbrev main_v91 : Ref sig .tc := ⟨.hbm, 109, rfl⟩
abbrev main_cst_12 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩

abbrev nD : Nat := 1
abbrev τ : Topo := Topo.v7x

variable {F : FTy → Type} [FloatOps F]
-- ==== OddIn.lean ====
abbrev S16896x1024 : Shape := ⟨2, ![16896, 1024]⟩
abbrev S1024 : Shape := ⟨1, ![1024]⟩
abbrev S1024x1840 : Shape := ⟨2, ![1024, 1840]⟩
abbrev S128x512x2x2x64 : Shape := ⟨5, ![128, 512, 2, 2, 64]⟩
abbrev S1024x768 : Shape := ⟨2, ![1024, 768]⟩
abbrev S1024x3x2x2x64 : Shape := ⟨5, ![1024, 3, 2, 2, 64]⟩
abbrev S1024x1x2x2x64 : Shape := ⟨5, ![1024, 1, 2, 2, 64]⟩
abbrev S1024x2x2x64 : Shape := ⟨4, ![1024, 2, 2, 64]⟩
abbrev S1024x256 : Shape := ⟨2, ![1024, 256]⟩
abbrev S1024x1280 : Shape := ⟨2, ![1024, 1280]⟩
abbrev S1024x48 : Shape := ⟨2, ![1024, 48]⟩
abbrev S_ : Shape := ⟨0, ![]⟩
abbrev S1024x80 : Shape := ⟨2, ![1024, 80]⟩
abbrev S1024x1920 : Shape := ⟨2, ![1024, 1920]⟩
abbrev S1x1024 : Shape := ⟨2, ![1, 1024]⟩
abbrev S16896x1920 : Shape := ⟨2, ![16896, 1920]⟩
abbrev S512x1024 : Shape := ⟨2, ![512, 1024]⟩
abbrev S1024x640 : Shape := ⟨2, ![1024, 640]⟩
abbrev S512x640 : Shape := ⟨2, ![512, 640]⟩
abbrev S512 : Shape := ⟨1, ![512]⟩
abbrev S512x1 : Shape := ⟨2, ![512, 1]⟩
abbrev S16896x256 : Shape := ⟨2, ![16896, 256]⟩
abbrev S16896x2x2x64 : Shape := ⟨4, ![16896, 2, 2, 64]⟩
abbrev S16384x2x2x64 : Shape := ⟨4, ![16384, 2, 2, 64]⟩
abbrev S8x2048x2x2x64 : Shape := ⟨5, ![8, 2048, 2, 2, 64]⟩
abbrev S512x2x2x64 : Shape := ⟨4, ![512, 2, 2, 64]⟩
abbrev S128x4x2x2x64 : Shape := ⟨5, ![128, 4, 2, 2, 64]⟩
abbrev S8x512x2x2x64 : Shape := ⟨5, ![8, 512, 2, 2, 64]⟩
abbrev S128x516x2x2x64 : Shape := ⟨5, ![128, 516, 2, 2, 64]⟩

abbrev nBuf : Space → Nat
  | .hbm => 45
  | .vmem => 8
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x1840, .f32⟩
  | .hbm, ⟨3, _⟩ => ⟨S128x512x2x2x64, .f32⟩
  | .hbm, ⟨4, _⟩ => ⟨S1024x768, .f32⟩
  | .hbm, ⟨5, _⟩ => ⟨S1024x3x2x2x64, .f32⟩
  | .hbm, ⟨6, _⟩ => ⟨S1024x1x2x2x64, .f32⟩
  | .hbm, ⟨7, _⟩ => ⟨S1024x2x2x64, .f32⟩
  | .hbm, ⟨8, _⟩ => ⟨S1024x2x2x64, .f32⟩
  | .hbm, ⟨9, _⟩ => ⟨S1024x256, .f32⟩
  | .hbm, ⟨10, _⟩ => ⟨S1024x1x2x2x64, .f32⟩
  | .hbm, ⟨11, _⟩ => ⟨S1024x2x2x64, .f32⟩
  | .hbm, ⟨12, _⟩ => ⟨S1024x2x2x64, .f32⟩
  | .hbm, ⟨13, _⟩ => ⟨S1024x256, .f32⟩
  | .hbm, ⟨14, _⟩ => ⟨S1024x1280, .f32⟩
  | .hbm, ⟨15, _⟩ => ⟨S1024x48, .f32⟩
  | .hbm, ⟨16, _⟩ => ⟨S_, .f32⟩
  | .hbm, ⟨17, _⟩ => ⟨S1024x80, .f32⟩
  | .hbm, ⟨18, _⟩ => ⟨S1024x1920, .f32⟩
  | .hbm, ⟨19, _⟩ => ⟨S1024x1920, .bf16⟩
  | .hbm, ⟨20, _⟩ => ⟨S1x1024, .f32⟩
  | .hbm, ⟨21, _⟩ => ⟨S16896x1920, .f32⟩
  | .hbm, ⟨22, _⟩ => ⟨S16896x256, .f32⟩
  | .hbm, ⟨23, _⟩ => ⟨S16896x2x2x64, .f32⟩
  | .hbm, ⟨24, _⟩ => ⟨S16896x256, .f32⟩
  | .hbm, ⟨25, _⟩ => ⟨S16896x2x2x64, .f32⟩
  | .hbm, ⟨26, _⟩ => ⟨S16896x2x2x64, .f32⟩
  | .hbm, ⟨27, _⟩ => ⟨S16896x256, .f32⟩
  | .hbm, ⟨28, _⟩ => ⟨S16896x2x2x64, .f32⟩
  | .hbm, ⟨29, _⟩ => ⟨S16896x2x2x64, .f32⟩
  | .hbm, ⟨30, _⟩ => ⟨S16384x2x2x64, .f32⟩
  | .hbm, ⟨31, _⟩ => ⟨S8x2048x2x2x64, .f32⟩
  | .hbm, ⟨32, _⟩ => ⟨S512x2x2x64, .f32⟩
  | .hbm, ⟨33, _⟩ => ⟨S128x4x2x2x64, .f32⟩
  | .hbm, ⟨34, _⟩ => ⟨S16384x2x2x64, .f32⟩
  | .hbm, ⟨35, _⟩ => ⟨S8x2048x2x2x64, .f32⟩
  | .hbm, ⟨36, _⟩ => ⟨S512x2x2x64, .f32⟩
  | .hbm, ⟨37, _⟩ => ⟨S128x4x2x2x64, .f32⟩
  | .hbm, ⟨38, _⟩ => ⟨S16384x2x2x64, .f32⟩
  | .hbm, ⟨39, _⟩ => ⟨S8x2048x2x2x64, .f32⟩
  | .hbm, ⟨40, _⟩ => ⟨S8x512x2x2x64, .f32⟩
  | .hbm, ⟨41, _⟩ => ⟨S512x2x2x64, .f32⟩
  | .hbm, ⟨42, _⟩ => ⟨S128x4x2x2x64, .f32⟩
  | .hbm, ⟨43, _⟩ => ⟨S128x516x2x2x64, .f32⟩
  | .hbm, ⟨44, _⟩ => ⟨S128x512x2x2x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x640, .bf16⟩
  | .local _ .vmem, ⟨4, _⟩ => ⟨S1024x640, .bf16⟩
  | .local _ .vmem, ⟨5, _⟩ => ⟨S512x640, .f32⟩
  | .local _ .vmem, ⟨6, _⟩ => ⟨S512x640, .f32⟩
  | .local _ .vmem, ⟨7, _⟩ => ⟨S512x1024, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![33, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OddInRefIdeal.lean ====
abbrev S16896x1024 : Shape := ⟨2, ![16896, 1024]⟩
abbrev S1024 : Shape := ⟨1, ![1024]⟩
abbrev S1024x1840 : Shape := ⟨2, ![1024, 1840]⟩
abbrev S128x512x2x2x64 : Shape := ⟨5, ![128, 512, 2, 2, 64]⟩
abbrev S_ : Shape := ⟨0, ![]⟩
abbrev S16896 : Shape := ⟨1, ![16896]⟩
abbrev S16896x1 : Shape := ⟨2, ![16896, 1]⟩
abbrev S1x1024 : Shape := ⟨2, ![1, 1024]⟩
abbrev S16896x1840 : Shape := ⟨2, ![16896, 1840]⟩
abbrev S16896x768 : Shape := ⟨2, ![16896, 768]⟩
abbrev S16896x3x2x2x64 : Shape := ⟨5, ![16896, 3, 2, 2, 64]⟩
abbrev S16896x1x2x2x64 : Shape := ⟨5, ![16896, 1, 2, 2, 64]⟩
abbrev S16896x2x2x64 : Shape := ⟨4, ![16896, 2, 2, 64]⟩
abbrev S16896x256 : Shape := ⟨2, ![16896, 256]⟩
abbrev S16896x48 : Shape := ⟨2, ![16896, 48]⟩
abbrev S16896x80 : Shape := ⟨2, ![16896, 80]⟩
abbrev S16896x1920 : Shape := ⟨2, ![16896, 1920]⟩
abbrev S16384x3x2x2x64 : Shape := ⟨5, ![16384, 3, 2, 2, 64]⟩
abbrev S8x2048x3x2x2x64 : Shape := ⟨6, ![8, 2048, 3, 2, 2, 64]⟩
abbrev S512x3x2x2x64 : Shape := ⟨5, ![512, 3, 2, 2, 64]⟩
abbrev S128x4x3x2x2x64 : Shape := ⟨6, ![128, 4, 3, 2, 2, 64]⟩
abbrev S8x2048x1x2x2x64 : Shape := ⟨6, ![8, 2048, 1, 2, 2, 64]⟩
abbrev S8x2048x2x2x64 : Shape := ⟨5, ![8, 2048, 2, 2, 64]⟩
abbrev S128x4x1x2x2x64 : Shape := ⟨6, ![128, 4, 1, 2, 2, 64]⟩
abbrev S128x4x2x2x64 : Shape := ⟨5, ![128, 4, 2, 2, 64]⟩
abbrev S8x512x1x2x2x64 : Shape := ⟨6, ![8, 512, 1, 2, 2, 64]⟩
abbrev S8x512x2x2x64 : Shape := ⟨5, ![8, 512, 2, 2, 64]⟩
abbrev S128x516x2x2x64 : Shape := ⟨5, ![128, 516, 2, 2, 64]⟩

abbrev nBuf : Space → Nat
  | .hbm => 57
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x1840, .f32⟩
  | .hbm, ⟨3, _⟩ => ⟨S128x512x2x2x64, .f32⟩
  | .hbm, ⟨4, _⟩ => ⟨S16896x1024, .f32⟩
  | .hbm, ⟨5, _⟩ => ⟨S_, .f32⟩
  | .hbm, ⟨6, _⟩ => ⟨S16896, .f32⟩
  | .hbm, ⟨7, _⟩ => ⟨S16896x1, .f32⟩
  | .hbm, ⟨8, _⟩ => ⟨S_, .f32⟩
  | .hbm, ⟨9, _⟩ => ⟨S16896x1, .f32⟩
  | .hbm, ⟨10, _⟩ => ⟨S16896x1, .f32⟩
  | .hbm, ⟨11, _⟩ => ⟨S_, .f32⟩
  | .hbm, ⟨12, _⟩ => ⟨S16896x1, .f32⟩
  | .hbm, ⟨13, _⟩ => ⟨S16896x1, .f32⟩
  | .hbm, ⟨14, _⟩ => ⟨S16896x1, .f32⟩
  | .hbm, ⟨15, _⟩ => ⟨S16896x1024, .f32⟩
  | .hbm, ⟨16, _⟩ => ⟨S16896x1024, .f32⟩
  | .hbm, ⟨17, _⟩ => ⟨S1x1024, .f32⟩
  | .hbm, ⟨18, _⟩ => ⟨S16896x1024, .f32⟩
  | .hbm, ⟨19, _⟩ => ⟨S16896x1024, .f32⟩
  | .hbm, ⟨20, _⟩ => ⟨S16896x1840, .f32⟩
  | .hbm, ⟨21, _⟩ => ⟨S16896x768, .f32⟩
  | .hbm, ⟨22, _⟩ => ⟨S16896x3x2x2x64, .f32⟩
  | .hbm, ⟨23, _⟩ => ⟨S16896x1024, .f32⟩
  | .hbm, ⟨24, _⟩ => ⟨S16896x1x2x2x64, .f32⟩
  | .hbm, ⟨25, _⟩ => ⟨S16896x2x2x64, .f32⟩
  | .hbm, ⟨26, _⟩ => ⟨S16896x256, .f32⟩
  | .hbm, ⟨27, _⟩ => ⟨S16896x1x2x2x64, .f32⟩
  | .hbm, ⟨28, _⟩ => ⟨S16896x2x2x64, .f32⟩
  | .hbm, ⟨29, _⟩ => ⟨S16896x2x2x64, .f32⟩
  | .hbm, ⟨30, _⟩ => ⟨S16896x256, .f32⟩
  | .hbm, ⟨31, _⟩ => ⟨S16896x1x2x2x64, .f32⟩
  | .hbm, ⟨32, _⟩ => ⟨S16896x2x2x64, .f32⟩
  | .hbm, ⟨33, _⟩ => ⟨S16896x2x2x64, .f32⟩
  | .hbm, ⟨34, _⟩ => ⟨S16896x256, .f32⟩
  | .hbm, ⟨35, _⟩ => ⟨S16896x48, .f32⟩
  | .hbm, ⟨36, _⟩ => ⟨S_, .f32⟩
  | .hbm, ⟨37, _⟩ => ⟨S16896x80, .f32⟩
  | .hbm, ⟨38, _⟩ => ⟨S16896x1920, .f32⟩
  | .hbm, ⟨39, _⟩ => ⟨S16384x3x2x2x64, .f32⟩
  | .hbm, ⟨40, _⟩ => ⟨S8x2048x3x2x2x64, .f32⟩
  | .hbm, ⟨41, _⟩ => ⟨S512x3x2x2x64, .f32⟩
  | .hbm, ⟨42, _⟩ => ⟨S128x4x3x2x2x64, .f32⟩
  | .hbm, ⟨43, _⟩ => ⟨S8x2048x1x2x2x64, .f32⟩
  | .hbm, ⟨44, _⟩ => ⟨S8x2048x2x2x64, .f32⟩
  | .hbm, ⟨45, _⟩ => ⟨S128x4x1x2x2x64, .f32⟩
  | .hbm, ⟨46, _⟩ => ⟨S128x4x2x2x64, .f32⟩
  | .hbm, ⟨47, _⟩ => ⟨S8x2048x1x2x2x64, .f32⟩
  | .hbm, ⟨48, _⟩ => ⟨S8x2048x2x2x64, .f32⟩
  | .hbm, ⟨49, _⟩ => ⟨S128x4x1x2x2x64, .f32⟩
  | .hbm, ⟨50, _⟩ => ⟨S128x4x2x2x64, .f32⟩
  | .hbm, ⟨51, _⟩ => ⟨S8x512x1x2x2x64, .f32⟩
  | .hbm, ⟨52, _⟩ => ⟨S8x512x2x2x64, .f32⟩
  | .hbm, ⟨53, _⟩ => ⟨S128x4x1x2x2x64, .f32⟩
  | .hbm, ⟨54, _⟩ => ⟨S128x4x2x2x64, .f32⟩
  | .hbm, ⟨55, _⟩ => ⟨S128x516x2x2x64, .f32⟩
  | .hbm, ⟨56, _⟩ => ⟨S128x512x2x2x64, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩

abbrev nD : Nat := 1
abbrev τ : Topo := Topo.v7x

variable {F : FTy → Type} [FloatOps F]
-- ==== MixOut.lean ====
abbrev S16896x1024 : Shape := ⟨2, ![16896, 1024]⟩
abbrev S1024x1024 : Shape := ⟨2, ![1024, 1024]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16896x1024, .f32⟩
  | .hbm, ⟨1, _⟩ => ⟨S1024x1024, .f32⟩
  | .hbm, ⟨2, _⟩ => ⟨S16896x1024, .f32⟩
  | .hbm, ⟨3, _⟩ => ⟨S1024x1024, .bf16⟩
  | .hbm, ⟨4, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![33, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MixOutRefIdeal.lean ====
abbrev S16896x1024 : Shape := ⟨2, ![16896, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024x1024, .f32⟩
  | .hbm, ⟨2, _⟩ => ⟨S16896x1024, .f32⟩
  | .hbm, ⟨3, _⟩ => ⟨S16896x1024, .f32⟩
  | .hbm, ⟨4, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== RetSample.lean ====
abbrev S512x512 : Shape := ⟨2, ![512, 512]⟩
abbrev S128x4x128x128 : Shape := ⟨4, ![128, 4, 128, 128]⟩
abbrev S128x4x512 : Shape := ⟨3, ![128, 4, 512]⟩
abbrev S_ : Shape := ⟨0, ![]⟩
abbrev S128x128x512 : Shape := ⟨3, ![128, 128, 512]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x8x128 : Shape := ⟨3, ![4, 8, 128]⟩
abbrev S1x8x128 : Shape := ⟨3, ![1, 8, 128]⟩
abbrev S1x1x128x128 : Shape := ⟨4, ![1, 1, 128, 128]⟩
abbrev S1x1x128 : Shape := ⟨3, ![1, 1, 128]⟩

abbrev nBuf : Space → Nat
  | .hbm => 91
  | .vmem => 21
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S128x4x128x128, .f32⟩
  | .hbm, ⟨4, _⟩ => ⟨S128x4x512, .f32⟩
  | .hbm, ⟨5, _⟩ => ⟨S_, .i32⟩
  | .hbm, ⟨6, _⟩ => ⟨S_, .f32⟩
  | .hbm, ⟨7, _⟩ => ⟨S128x128x512, .f32⟩
  | .hbm, ⟨8, _⟩ => ⟨S128x4x512, .f32⟩
  | .hbm, ⟨9, _⟩ => ⟨S_, .i32⟩
  | .hbm, ⟨10, _⟩ => ⟨S_, .f32⟩
  | .hbm, ⟨11, _⟩ => ⟨S128x128x512, .f32⟩
  | .hbm, ⟨12, _⟩ => ⟨S128x4x512, .f32⟩
  | .hbm, ⟨13, _⟩ => ⟨S_, .i32⟩
  | .hbm, ⟨14, _⟩ => ⟨S_, .f32⟩
  | .hbm, ⟨15, _⟩ => ⟨S128x128x512, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S_, .f32⟩
  | .hbm, ⟨21, _⟩ => ⟨S4, .f32⟩
  | .hbm, ⟨22, _⟩ => ⟨S4, .f32⟩
  | .hbm, ⟨23, _⟩ => ⟨S_, .f32⟩
  | .hbm, ⟨24, _⟩ => ⟨S4, .f32⟩
  | .hbm, ⟨25, _⟩ => ⟨S4, .f32⟩
  | .hbm, ⟨26, _⟩ => ⟨S4, .f32⟩
  | .hbm, ⟨27, _⟩ => ⟨S128, .f32⟩
  | .hbm, ⟨28, _⟩ => ⟨S128x1, .f32⟩
  | .hbm, ⟨29, _⟩ => ⟨S1x128, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S_, .f32⟩
  | .hbm, ⟨34, _⟩ => ⟨S128x128, .f32⟩
  | .hbm, ⟨35, _⟩ => ⟨S128x128, .i1⟩
  | .hbm, ⟨36, _⟩ => ⟨S_, .f32⟩
  | .hbm, ⟨37, _⟩ => ⟨S128x128, .f32⟩
  | .hbm, ⟨38, _⟩ => ⟨S128x128, .f32⟩
  | .hbm, ⟨39, _⟩ => ⟨S4x1x1, .f32⟩
  | .hbm, ⟨40, _⟩ => ⟨S1x128x128, .f32⟩
  | .hbm, ⟨41, _⟩ => ⟨S4x128x128, .f32⟩
  | .hbm, ⟨42, _⟩ => ⟨S4x128x128, .f32⟩
  | .hbm, ⟨43, _⟩ => ⟨S4x128x128, .f32⟩
  | .hbm, ⟨44, _⟩ => ⟨S4x128x128, .f32⟩
  | .hbm, ⟨45, _⟩ => ⟨S_, .f32⟩
  | .hbm, ⟨46, _⟩ => ⟨S_, .f32⟩
  | .hbm, ⟨47, _⟩ => ⟨S4x128x128, .i1⟩
  | .hbm, ⟨48, _⟩ => ⟨S4x128x128, .f32⟩
  | .hbm, ⟨49, _⟩ => ⟨S4x128x128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S4x1, .f32⟩
  | .hbm, ⟨54, _⟩ => ⟨S1x128, .f32⟩
  | .hbm, ⟨55, _⟩ => ⟨S4x128, .f32⟩
  | .hbm, ⟨56, _⟩ => ⟨S4x128, .f32⟩
  | .hbm, ⟨57, _⟩ => ⟨S4x128, .f32⟩
  | .hbm, ⟨58, _⟩ => ⟨S4x128, .f32⟩
  | .hbm, ⟨59, _⟩ => ⟨S_, .f32⟩
  | .hbm, ⟨60, _⟩ => ⟨S128, .f32⟩
  | .hbm, ⟨61, _⟩ => ⟨S128, .i1⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S4x1, .f32⟩
  | .hbm, ⟨69, _⟩ => ⟨S1x128, .f32⟩
  | .hbm, ⟨70, _⟩ => ⟨S4x128, .f32⟩
  | .hbm, ⟨71, _⟩ => ⟨S4x128, .f32⟩
  | .hbm, ⟨72, _⟩ => ⟨S4x128, .f32⟩
  | .hbm, ⟨73, _⟩ => ⟨S4x128, .f32⟩
  | .hbm, ⟨74, _⟩ => ⟨S_, .f32⟩
  | .hbm, ⟨75, _⟩ => ⟨S_, .f32⟩
  | .hbm, ⟨76, _⟩ => ⟨S4x128, .i1⟩
  | .hbm, ⟨77, _⟩ => ⟨S4x128, .f32⟩
  | .hbm, ⟨78, _⟩ => ⟨S4x128, .f32⟩
  | .hbm, ⟨79, _⟩ => ⟨S_, .f32⟩
  | .hbm, ⟨80, _⟩ => ⟨S4, .f32⟩
  | .hbm, ⟨81, _⟩ => ⟨S4, .f32⟩
  | .hbm, ⟨82, _⟩ => ⟨S4, .f32⟩
  | .hbm, ⟨83, _⟩ => ⟨S4x128x1, .f32⟩
  | .hbm, ⟨84, _⟩ => ⟨S4x128x128, .f32⟩
  | .hbm, ⟨85, _⟩ => ⟨S4x128x1, .f32⟩
  | .hbm, ⟨86, _⟩ => ⟨S4x128x128, .f32⟩
  | .hbm, ⟨87, _⟩ => ⟨S4x1x1, .f32⟩
  | .hbm, ⟨88, _⟩ => ⟨S4x8x128, .f32⟩
  | .hbm, ⟨89, _⟩ => ⟨S128x128x512, .f32⟩
  | .hbm, ⟨90, _⟩ => ⟨S128x4x128x128, .f32⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x8x128, .f32⟩
  | .local _ .vmem, ⟨13, _⟩ => ⟨S1x8x128, .f32⟩
  | .local _ .vmem, ⟨14, _⟩ => ⟨S1x1x128x128, .f32⟩
  | .local _ .vmem, ⟨15, _⟩ => ⟨S1x1x128x128, .f32⟩
  | .local _ .vmem, ⟨16, _⟩ => ⟨S1x128x128, .f32⟩
  | .local _ .vmem, ⟨17, _⟩ => ⟨S1x128x128, .f32⟩
  | .local _ .vmem, ⟨18, _⟩ => ⟨S1x1x128x128, .f32⟩
  | .local _ .vmem, ⟨19, _⟩ => ⟨S1x1x128x128, .f32⟩
  | .local _ .vmem, ⟨20, _⟩ => ⟨S128x128, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_call4_v0 : Ref sig .tc := ⟨.hbm, 75, rfl⟩
abbrev main_call4_v1 : Ref sig .tc := ⟨.hbm, 76, rfl⟩
abbrev main_call4_v2 : Ref sig .tc := ⟨.hbm, 77, rfl⟩
abbrev main_v51 : Ref sig .tc := ⟨.hbm, 78, rfl⟩
abbrev main_cst_12 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61_0 : Ref sig .tc := ⟨.hbm, 89, rfl⟩
abbrev main_v61_1 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![128, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== RetSampleRefIdeal.lean ====
abbrev S512x512 : Shape := ⟨2, ![512, 512]⟩
abbrev S128x4x128x128 : Shape := ⟨4, ![128, 4, 128, 128]⟩
abbrev S128x4x4x128 : Shape := ⟨4, ![128, 4, 4, 128]⟩
abbrev S4 : Shape := ⟨1, ![4]⟩
abbrev S_ : Shape := ⟨0, ![]⟩
abbrev S4x1 : Shape := ⟨2, ![4, 1]⟩
abbrev S1x4 : Shape := ⟨2, ![1, 4]⟩
abbrev S4x4 : Shape := ⟨2, ![4, 4]⟩
abbrev S4x1x1 : Shape := ⟨3, ![4, 1, 1]⟩
abbrev S1x4x4 : Shape := ⟨3, ![1, 4, 4]⟩
abbrev S4x4x4 : Shape := ⟨3, ![4, 4, 4]⟩
abbrev S128x4x4x4 : Shape := ⟨4, ![128, 4, 4, 4]⟩
abbrev S1x4x4x4 : Shape := ⟨4, ![1, 4, 4, 4]⟩
abbrev S4x4x1 : Shape := ⟨3, ![4, 4, 1]⟩
abbrev S1x4x4x1 : Shape := ⟨4, ![1, 4, 4, 1]⟩
abbrev S1x4x1x1 : Shape := ⟨4, ![1, 4, 1, 1]⟩
abbrev S128x4x512 : Shape := ⟨3, ![128, 4, 512]⟩
abbrev S128x128x512 : Shape := ⟨3, ![128, 128, 512]⟩

abbrev nBuf : Space → Nat
  | .hbm => 92
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S128x4x128x128, .f32⟩
  | .hbm, ⟨4, _⟩ => ⟨S128x4x4x128, .f32⟩
  | .hbm, ⟨5, _⟩ => ⟨S128x4x4x128, .f32⟩
  | .hbm, ⟨6, _⟩ => ⟨S128x4x4x128, .f32⟩
  | .hbm, ⟨7, _⟩ => ⟨S128x4x4x128, .f32⟩
  | .hbm, ⟨8, _⟩ => ⟨S128x4x4x128, .f32⟩
  | .hbm, ⟨9, _⟩ => ⟨S128x4x4x128, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S4, .f32⟩
  | .hbm, ⟨22, _⟩ => ⟨S4x1, .f32⟩
  | .hbm, ⟨23, _⟩ => ⟨S1x4, .f32⟩
  | .hbm, ⟨24, _⟩ => ⟨S4x4, .f32⟩
  | .hbm, ⟨25, _⟩ => ⟨S4x4, .f32⟩
  | .hbm, ⟨26, _⟩ => ⟨S4x4, .f32⟩
  | .hbm, ⟨27, _⟩ => ⟨S_, .f32⟩
  | .hbm, ⟨28, _⟩ => ⟨S4x4, .f32⟩
  | .hbm, ⟨29, _⟩ => ⟨S4x4, .i1⟩
  | .hbm, ⟨30, _⟩ => ⟨S_, .f32⟩
  | .hbm, ⟨31, _⟩ => ⟨S4x4, .f32⟩
  | .hbm, ⟨32, _⟩ => ⟨S4x4, .f32⟩
  | .hbm, ⟨33, _⟩ => ⟨S4x1x1, .f32⟩
  | .hbm, ⟨34, _⟩ => ⟨S1x4x4, .f32⟩
  | .hbm, ⟨35, _⟩ => ⟨S4x4x4, .f32⟩
  | .hbm, ⟨36, _⟩ => ⟨S4x4x4, .f32⟩
  | .hbm, ⟨37, _⟩ => ⟨S4x4x4, .f32⟩
  | .hbm, ⟨38, _⟩ => ⟨S4x4x4, .f32⟩
  | .hbm, ⟨39, _⟩ => ⟨S_, .f32⟩
  | .hbm, ⟨40, _⟩ => ⟨S_, .f32⟩
  | .hbm, ⟨41, _⟩ => ⟨S4x4x4, .i1⟩
  | .hbm, ⟨42, _⟩ => ⟨S4x4x4, .f32⟩
  | .hbm, ⟨43, _⟩ => ⟨S4x4x4, .f32⟩
  | .hbm, ⟨44, _⟩ => ⟨S_, .f32⟩
  | .hbm, ⟨45, _⟩ => ⟨S4, .f32⟩
  | .hbm, ⟨46, _⟩ => ⟨S4, .f32⟩
  | .hbm, ⟨47, _⟩ => ⟨S4x1, .f32⟩
  | .hbm, ⟨48, _⟩ => ⟨S1x4, .f32⟩
  | .hbm, ⟨49, _⟩ => ⟨S4x4, .f32⟩
  | .hbm, ⟨50, _⟩ => ⟨S4x4, .f32⟩
  | .hbm, ⟨51, _⟩ => ⟨S4x4, .f32⟩
  | .hbm, ⟨52, _⟩ => ⟨S4x4, .f32⟩
  | .hbm, ⟨53, _⟩ => ⟨S_, .f32⟩
  | .hbm, ⟨54, _⟩ => ⟨S4, .f32⟩
  | .hbm, ⟨55, _⟩ => ⟨S4, .f32⟩
  | .hbm, ⟨56, _⟩ => ⟨S4x1, .f32⟩
  | .hbm, ⟨57, _⟩ => ⟨S1x4, .f32⟩
  | .hbm, ⟨58, _⟩ => ⟨S4x4, .f32⟩
  | .hbm, ⟨59, _⟩ => ⟨S4x4, .f32⟩
  | .hbm, ⟨60, _⟩ => ⟨S4x4, .f32⟩
  | .hbm, ⟨61, _⟩ => ⟨S4x4, .f32⟩
  | .hbm, ⟨62, _⟩ => ⟨S_, .f32⟩
  | .hbm, ⟨63, _⟩ => ⟨S4, .f32⟩
  | .hbm, ⟨64, _⟩ => ⟨S4, .f32⟩
  | .hbm, ⟨65, _⟩ => ⟨S4, .f32⟩
  | .hbm, ⟨66, _⟩ => ⟨S128x4x4x4, .f32⟩
  | .hbm, ⟨67, _⟩ => ⟨S1x4x4x4, .f32⟩
  | .hbm, ⟨68, _⟩ => ⟨S128x4x4x4, .f32⟩
  | .hbm, ⟨69, _⟩ => ⟨S128x4x4x4, .f32⟩
  | .hbm, ⟨70, _⟩ => ⟨S128x4x4x128, .f32⟩
  | .hbm, ⟨71, _⟩ => ⟨S4x4x1, .f32⟩
  | .hbm, ⟨72, _⟩ => ⟨S1x4x4x1, .f32⟩
  | .hbm, ⟨73, _⟩ => ⟨S128x4x4x128, .f32⟩
  | .hbm, ⟨74, _⟩ => ⟨S128x4x4x128, .f32⟩
  | .hbm, ⟨75, _⟩ => ⟨S128x4x4x128, .f32⟩
  | .hbm, ⟨76, _⟩ => ⟨S128x4x4x128, .f32⟩
  | .hbm, ⟨77, _⟩ => ⟨S4x1x1, .f32⟩
  | .hbm, ⟨78, _⟩ => ⟨S1x4x1x1, .f32⟩
  | .hbm, ⟨79, _⟩ => ⟨S128x4x128x128, .f32⟩
  | .hbm, ⟨80, _⟩ => ⟨S128x4x128x128, .f32⟩
  | .hbm, ⟨81, _⟩ => ⟨S4x4x1, .f32⟩
  | .hbm, ⟨82, _⟩ => ⟨S1x4x4x1, .f32⟩
  | .hbm, ⟨83, _⟩ => ⟨S128x4x4x128, .f32⟩
  | .hbm, ⟨84, _⟩ => ⟨S128x4x4x128, .f32⟩
  | .hbm, ⟨85, _⟩ => ⟨S128x4x128x128, .f32⟩
  | .hbm, ⟨86, _⟩ => ⟨S128x4x128x128, .f32⟩
  | .hbm, ⟨87, _⟩ => ⟨S128x4x4x128, .f32⟩
  | .hbm, ⟨88, _⟩ => ⟨S128x4x512, .f32⟩
  | .hbm, ⟨89, _⟩ => ⟨S_, .i32⟩
  | .hbm, ⟨90, _⟩ => ⟨S_, .f32⟩
  | .hbm, ⟨91, _⟩ => ⟨S128x128x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_c : Ref sig .tc := ⟨.hbm, 89, rfl⟩
abbrev main_call1_v0 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== Proof.RetentionTables.lean ====
/- Retention: the decay tables, as the kernel's call gets them and as the reference's loop reads them. -/
module

public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- Each head's logarithm of the decay per position. -/
def LG : FVec Ideal S4 .f32 :=
  Host.log (subf (broadcastInDim S4 ![] bcast_S_S4 (constant S_ .f32 0x3F800000#32))
    (Host.powf (broadcastInDim S4 ![] bcast_S_S4 (constant S_ .f32 0x40000000#32))
      (subf (broadcastInDim S4 ![] bcast_S_S4 (constant S_ .f32 0xC0A00000#32)) (sitofp .f32 (iotaInDim S4 32 0)))))

/-- The positions in a chunk, as numbers. -/
def POS : FVec Ideal S128 .f32 := sitofp .f32 (iotaInDim S128 32 0)

/-- Query position minus key position. -/
def DIFF : FVec Ideal S128x128 .f32 :=
  subf (broadcastInDim S128x128 ![0, 1] bcast_S128x1_S128x128_0_1 (broadcastInDim S128x1 ![0] bcast_S128_S128x1_0 POS))
    (broadcastInDim S128x128 ![0, 1] bcast_S1x128_S128x128_0_1 (broadcastInDim S1x128 ![1] bcast_S128_S1x128_1 POS))

/-- The causal decay between two positions of a chunk. -/
def DM : FVec Ideal S4x128x128 .f32 :=
  select (broadcastInDim S4x128x128 ![1, 2] bcast_S128x128_S4x128x128_1_2 (cmpf .oge DIFF (broadcastInDim S128x128 ![] bcast_S_S128x128 (constant S_ .f32 0x00000000#32))))
    (Host.exp (mulf (broadcastInDim S4x128x128 ![0, 1, 2] bcast_S1x128x128_S4x128x128_0_1_2 (broadcastInDim S1x128x128 ![1, 2] bcast_S128x128_S1x128x128_1_2
        (maximumf DIFF (broadcastInDim S128x128 ![] bcast_S_S128x128 (constant S_ .f32 0x00000000#32)))))
      (broadcastInDim S4x128x128 ![0, 1, 2] bcast_S4x1x1_S4x128x128_0_1_2 (broadcastInDim S4x1x1 ![0] bcast_S4_S4x1x1_0 LG))))
    (broadcastInDim S4x128x128 ![] bcast_S_S4x128x128 (id (constant S_ .f32 0x00000000#32)))

/-- A row of numbers over the positions times each head's logarithm, exponentiated. -/
def EXPS (P : FVec Ideal S128 .f32) : FVec Ideal S4x128 .f32 :=
  Host.exp (mulf (broadcastInDim S4x128 ![0, 1] bcast_S1x128_S4x128_0_1 (broadcastInDim S1x128 ![1] bcast_S128_S1x128_1 P))
    (broadcastInDim S4x128 ![0, 1] bcast_S4x1_S4x128_0_1 (broadcastInDim S4x1 ![0] bcast_S4_S4x1_0 LG)))

/-- The decay of the state a query sees. -/
def QD : FVec Ideal S4x128 .f32 := EXPS (addf POS (broadcastInDim S128 ![] bcast_S_S128 (constant S_ .f32 0x3F800000#32)))

/-- The decay of a key until the chunk's end. -/
def KD : FVec Ideal S4x128 .f32 := EXPS (subf (broadcastInDim S128 ![] bcast_S_S128 (constant S_ .f32 0x42FE0000#32)) POS)

/-- The same as the kernel's host code computes it, with the positions past the chunk's length masked. -/
def KDM : FVec Ideal S4x128 .f32 :=
  select (broadcastInDim S4x128 ![1] bcast_S128_S4x128_1 (cmpf .olt POS (broadcastInDim S128 ![] bcast_S_S128 (constant S_ .f32 0x43000000#32))))
    (EXPS (maximumf (subf (broadcastInDim S128 ![] bcast_S_S128 (constant S_ .f32 0x42FE0000#32)) POS) (broadcastInDim S128 ![] bcast_S_S128 (constant S_ .f32 0x00000000#32))))
    (broadcastInDim S4x128 ![] bcast_S_S4x128 (id (constant S_ .f32 0x00000000#32)))

/-- The decay of the state over a chunk. -/
def CD : FVec Ideal S4 .f32 := Host.exp (mulf (broadcastInDim S4 ![] bcast_S_S4 (constant S_ .f32 0x43000000#32)) LG)

/-- Row `x` of chunk `n`. -/
def row (n : ℕ) (x : Fin 128) : Fin 2048 := ⟨(n * 128 + x) % 2048, Nat.mod_lt _ (by omega)⟩

/-- Column `d` of head `h`. -/
def col (h : Fin 4) (d : Fin 128) : Fin 512 := ⟨h * 128 + d, by omega⟩

/-- One step of the state: decayed over a chunk, plus the chunk's decayed keys against its values. -/
def stNext (K V : FVec Ideal S8x2048x512 .f32) (b : Fin 8) (h : Fin 4) (n : ℕ) (S : Fin 128 → Fin 128 → EReal) (d e : Fin 128) : EReal :=
  S d e * CD (ix1 h) + ∑ x : Fin 128, K (ix3 b (row n x) (col h d)) * KD (ix2 h x) * V (ix3 b (row n x) (col h e))

/-- The state of a sequence's head before chunk `n`. -/
def ST (K V : FVec Ideal S8x2048x512 .f32) (b : Fin 8) (h : Fin 4) : ℕ → Fin 128 → Fin 128 → EReal
  | 0 => fun _ _ => 0
  | n + 1 => stNext K V b h n (ST K V b h n)

/-- A chunk's output at query `q`, from the state before the chunk. -/
def outC (Q K V : FVec Ideal S8x2048x512 .f32) (b : Fin 8) (h : Fin 4) (n : ℕ) (S : Fin 128 → Fin 128 → EReal) (q e : Fin 128) : EReal :=
  (∑ x : Fin 128, (∑ d : Fin 128, Q (ix3 b (row n q) (col h d)) * K (ix3 b (row n x) (col h d))) * DM (ix3 h q x) * V (ix3 b (row n x) (col h e)))
    + ∑ d : Fin 128, Q (ix3 b (row n q) (col h d)) * QD (ix2 h q) * S d e

/-- No position is past the chunk's length: the two forms of a key's decay agree. -/
theorem KDM_eq (h : Fin 4) (x : Fin 128) : KDM (ix2 h x) = KD (ix2 h x) := by
  pointwise [KDM, KD, EXPS, POS]
  have hp : (FloatOps.sitofp FTy.f32 (BitVec.ofNat 32 x) : Ideal .f32) = (((x : ℕ) : ℝ) : EReal) := by
    show (((BitVec.ofNat 32 (x : ℕ)).toInt : ℝ) : EReal) = _
    rw [BitVec.toInt_ofNat', Int.bmod_eq_of_le (by omega) (by omega)]
    simp
  have h128 : Ideal.ofBits .f32 1124073472#32 = ((128 : ℝ) : EReal) := by
    simp [Ideal.ofBits, Ideal.ieee, -EReal.coe_mul]; norm_num
  have h127 : Ideal.ofBits .f32 1123942400#32 = ((127 : ℝ) : EReal) := by
    simp [Ideal.ofBits, Ideal.ieee, -EReal.coe_mul]; norm_num
  have hx : ((x : ℕ) : ℝ) ≤ 127 := by exact_mod_cast (by omega : (x : ℕ) ≤ 127)
  rw [hp, h128, h127, if_pos (by exact_mod_cast (by omega : (x : ℕ) < 128)), max_eq_left]
  rw [← EReal.coe_sub]
  exact_mod_cast sub_nonneg.mpr hx

variable (m : (ℓ : Loc nD τ sig) → Buf (Elt Ideal) ℓ)

/-- The kernel's operand holding the decay between two positions. -/
theorem V_dm (c : Dev nD) : V m c main_v25 = DM := by
  unfold V
  simp only [hostOps0, hostOps0_1, hostOps0_2, hostOps0_3, hostOps0_4, List.flatten_cons, List.flatten_nil, List.append_nil, List.cons_append, List.nil_append]
  after_results
  rfl

/-- The kernel's operand holding the decay a query sees. -/
theorem V_qd (c : Dev nD) : V m c main_v51 = broadcastInDim S4x128x128 ![0, 1, 2] bcast_S4x128x1_S4x128x128_0_1_2 (broadcastInDim S4x128x1 ![0, 1] bcast_S4x128_S4x128x1_0_1 QD) := by
  unfold V
  simp only [hostOps0, hostOps0_1, hostOps0_2, hostOps0_3, hostOps0_4, List.flatten_cons, List.flatten_nil, List.append_nil, List.cons_append, List.nil_append]
  after_results
  rfl

/-- The kernel's operand holding the decay of a key. -/
theorem V_kd (c : Dev nD) : V m c main_v53 = broadcastInDim S4x128x128 ![0, 1, 2] bcast_S4x128x1_S4x128x128_0_1_2 (broadcastInDim S4x128x1 ![0, 1] bcast_S4x128_S4x128x1_0_1 KDM) := by
  unfold V
  simp only [hostOps0, hostOps0_1, hostOps0_2, hostOps0_3, hostOps0_4, List.flatten_cons, List.flatten_nil, List.append_nil, List.cons_append, List.nil_append]
  after_results
  rfl

/-- The kernel's operand holding the decay over a chunk. -/
theorem V_cd (c : Dev nD) : V m c main_v55 = broadcastInDim S4x8x128 ![0, 1, 2] bcast_S4x1x1_S4x8x128_0_1_2 (broadcastInDim S4x1x1 ![0] bcast_S4_S4x1x1_0 CD) := by
  unfold V
  simp only [hostOps0, hostOps0_1, hostOps0_2, hostOps0_3, hostOps0_4, List.flatten_cons, List.flatten_nil, List.append_nil, List.cons_append, List.nil_append]
  after_results
  rfl

/-- The kernel's operand holding the state to begin with: zeros. -/
theorem V_s0 (c : Dev nD) : V m c main_v0 = (broadcastInDim S8x4x128x128 ![] bcast_S_S8x4x128x128 (constant S_ .f32 0x00000000#32) : FVec Ideal S8x4x128x128 .f32) := by
  unfold V
  simp only [hostOps0, hostOps0_1, hostOps0_2, hostOps0_3, hostOps0_4, List.flatten_cons, List.flatten_nil, List.append_nil, List.cons_append, List.nil_append]
  after_results

end Cert.KernelIdeal.Value

namespace Cert.ReferenceIdeal.Value

open Idealize.ShloMosaic.StableHlo

open Cert.ReferenceIdeal Cert.ReferenceIdeal.Gen
open Cert.KernelIdeal.Value (DM QD KD CD)

variable (m : (ℓ : Loc nD τ sig) → Buf (Elt Ideal) ℓ)

/-- An argument split into chunks and heads, chunks first. -/
def CH (X : FVec Ideal S8x2048x512 .f32) : FVec Ideal S16x8x4x128x128 .f32 :=
  transpose S16x8x4x128x128 [1, 0, 3, 2, 4] (shapeCast S8x16x128x4x128 (shapeCast S8x2048x4x128 X shapeCasts_S8x2048x512_S8x2048x4x128) shapeCasts_S8x2048x4x128_S8x16x128x4x128) transposes_S8x16x128x4x128_S16x8x4x128x128_1_0_3_2_4

/-- Queries at the loop's entry. -/
theorem entry_q (c : Dev nD) : entryContents preI m c (Proc.devRef .tc main_v55_0) = CH (m ((c.tc : Thread nD τ).loc main_arg0)) := by
  simp only [entryContents, afterL_cons, afterL_nil]
  after_reads_simp
  rfl
/-- Keys at the loop's entry. -/
theorem entry_k (c : Dev nD) : entryContents preI m c (Proc.devRef .tc main_v55_1) = CH (m ((c.tc : Thread nD τ).loc main_arg1)) := by
  simp only [entryContents, afterL_cons, afterL_nil]
  after_reads_simp
  rfl
/-- Values at the loop's entry. -/
theorem entry_v (c : Dev nD) : entryContents preI m c (Proc.devRef .tc main_v55_2) = CH (m ((c.tc : Thread nD τ).loc main_arg2)) := by
  simp only [entryContents, afterL_cons, afterL_nil]
  after_reads_simp
  rfl
/-- The decay between positions at the loop's entry. -/
theorem entry_dm (c : Dev nD) : entryContents preI m c (Proc.devRef .tc main_v55_3) = DM := by
  simp only [entryContents, afterL_cons, afterL_nil]
  after_reads_simp
  rfl
/-- The decay a query sees at the loop's entry. -/
theorem entry_qd (c : Dev nD) : entryContents preI m c (Proc.devRef .tc main_v55_4) = QD := by
  simp only [entryContents, afterL_cons, afterL_nil]
  after_reads_simp
  rfl
/-- The decay over a chunk at the loop's entry. -/
theorem entry_cd (c : Dev nD) : entryContents preI m c (Proc.devRef .tc main_v55_5) = CD := by
  simp only [entryContents, afterL_cons, afterL_nil]
  after_reads_simp
  rfl
/-- The decay of a key at the loop's entry. -/
theorem entry_kd (c : Dev nD) : entryContents preI m c (Proc.devRef .tc main_v55_6) = KD := by
  simp only [entryContents, afterL_cons, afterL_nil]
  after_reads_simp
  rfl
/-- The state at the loop's entry: zeros. -/
theorem entry_s (c : Dev nD) : entryContents preI m c (Proc.devRef .tc main_v55_8) = (broadcastInDim S8x4x128x128 ![] bcast_S_S8x4x128x128 (constant S_ .f32 0x00000000#32) : FVec Ideal S8x4x128x128 .f32) := by
  simp only [entryContents, afterL_cons, afterL_nil]
  after_reads_simp
  rfl

end Cert.ReferenceIdeal.Value

end
-- ==== Proof.RetentionRef.lean ====
/- Retention: what the reference's loop leaves, in terms of the recurrence. -/
module

public import proofs.«01_k».proof.Proof.RetentionTables
public import Idealize.ShloMosaic.Lib.Pipeline.ValueKit
public import Idealize.ShloMosaic.Lib.Pointwise
public import Idealize.ShloMosaic.Lib.WordCmp
public import Idealize.ShloMosaic.Lib.DynamicIndex
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceIdeal.Value

open Idealize.ShloMosaic.StableHlo
open Cert.ReferenceIdeal Cert.ReferenceIdeal.Gen
open Cert.KernelIdeal.Value (DM QD KD CD ST stNext outC row col)

variable (m : (ℓ : Loc nD τ sig) → Buf (Elt Ideal) ℓ)

/-- An entry of an argument split into chunks and heads. -/
theorem CH_at (X : FVec Ideal S8x2048x512 .f32) (n : Fin 16) (b : Fin 8) (h : Fin 4) (x d : Fin 128) :
    CH X (ix5 n b h x d) = X (ix3 b (row n x) (col h d)) := by
  pointwise [CH, row, col]
  blk_ext

/-- The loop's buffers before trip `n`. -/
abbrev IT (c : Dev nD) (n : ℕ) : Valuation τ sig (Elt Ideal) := STEP^[n] (entryContents preI m c)

theorem IT_succ (c : Dev nD) (n : ℕ) : IT m c (n + 1) = STEP (IT m c n) := Function.iterate_succ_apply' _ _ _

/-- The chunked queries stay. -/
theorem IT_q (c : Dev nD) : ∀ n, IT m c n (Proc.devRef .tc main_v55_0) = CH (m ((c.tc : Thread nD τ).loc main_arg0))
  | 0 => entry_q m c
  | n + 1 => by rw [IT_succ, STEP_main_v55_0, IT_q c n]
/-- The chunked keys stay. -/
theorem IT_k (c : Dev nD) : ∀ n, IT m c n (Proc.devRef .tc main_v55_1) = CH (m ((c.tc : Thread nD τ).loc main_arg1))
  | 0 => entry_k m c
  | n + 1 => by rw [IT_succ, STEP_main_v55_1, IT_k c n]
/-- The chunked values stay. -/
theorem IT_v (c : Dev nD) : ∀ n, IT m c n (Proc.devRef .tc main_v55_2) = CH (m ((c.tc : Thread nD τ).loc main_arg2))
  | 0 => entry_v m c
  | n + 1 => by rw [IT_succ, STEP_main_v55_2, IT_v c n]
/-- The decay between positions stays. -/
theorem IT_dm (c : Dev nD) : ∀ n, IT m c n (Proc.devRef .tc main_v55_3) = DM
  | 0 => entry_dm m c
  | n + 1 => by rw [IT_succ, STEP_main_v55_3, IT_dm c n]
/-- The decay a query sees stays. -/
theorem IT_qd (c : Dev nD) : ∀ n, IT m c n (Proc.devRef .tc main_v55_4) = QD
  | 0 => entry_qd m c
  | n + 1 => by rw [IT_succ, STEP_main_v55_4, IT_qd c n]
/-- The decay over a chunk stays. -/
theorem IT_cd (c : Dev nD) : ∀ n, IT m c n (Proc.devRef .tc main_v55_5) = CD
  | 0 => entry_cd m c
  | n + 1 => by rw [IT_succ, STEP_main_v55_5, IT_cd c n]
/-- The decay of a key stays. -/
theorem IT_kd (c : Dev nD) : ∀ n, IT m c n (Proc.devRef .tc main_v55_6) = KD
  | 0 => entry_kd m c
  | n + 1 => by rw [IT_succ, STEP_main_v55_6, IT_kd c n]
/-- The counter counts the trips. -/
theorem IT_ctr (c : Dev nD) : ∀ n, IT m c n (Proc.devRef .tc main_v55_7) = fun _ => (BitVec.ofNat 32 n : BitVec 32)
  | 0 => ctr_entry m c
  | n + 1 => by
    rw [IT_succ, STEP_main_v55_7]
    unfold step_main_v55_7
    rw [IT_ctr c n]
    funext i
    show BitVec.ofNat 32 n + 1#32 = BitVec.ofNat 32 (n + 1)
    rw [BitVec.ofNat_add]

/-- The start of chunk `n` in a stack of chunks, as an offset. -/
theorem start_eq (w : (⟨S_, .i32⟩ : BufTy).Contents (Elt Ideal)) (n : Fin 16) (hw : w = fun _ => (BitVec.ofNat 32 n : BitVec 32)) (a : Fin 5) :
    (((![w, constantI S_ 32 0#32, constantI S_ 32 0#32, constantI S_ 32 0#32, constantI S_ 32 0#32] : Fin 5 → (⟨S_, .i32⟩ : BufTy).Contents (Elt Ideal))) a (Shape.Idx.first h_S_)).toInt
      = ((![(n : ℕ), 0, 0, 0, 0] : Fin 5 → ℕ) a : ℤ) := by
  subst hw
  fin_cases a
  · exact toInt_ofNat_of_lt (by omega)
  all_goals rfl

/-- A chunk taken out of a stack of chunks at the counter. -/
theorem slice_at (X : FVec Ideal S16x8x4x128x128 .f32) (w : (⟨S_, .i32⟩ : BufTy).Contents (Elt Ideal)) (n : Fin 16)
    (hw : w = fun _ => (BitVec.ofNat 32 n : BitVec 32)) (b : Fin 8) (h : Fin 4) (x d : Fin 128) :
    (shapeCast S8x4x128x128 (Host.dynamicSlice S1x8x4x128x128 X (fun k => (((![w, constantI S_ 32 0#32, constantI S_ 32 0#32, constantI S_ 32 0#32, constantI S_ 32 0#32] : Fin 5 → (⟨S_, .i32⟩ : BufTy).Contents (Elt Ideal))) k (Shape.Idx.first h_S_)).toInt) sliceFits_S16x8x4x128x128_S1x8x4x128x128) shapeCasts_S1x8x4x128x128_S8x4x128x128 : FVec Ideal S8x4x128x128 .f32) (ix4 b h x d)
      = X (ix5 n b h x d) := by
  have hs : S16x8x4x128x128.Slices ![(n : ℕ), 0, 0, 0, 0] S1x8x4x128x128 := ⟨rfl, fun a => by fin_cases a <;> simp [S16x8x4x128x128, S1x8x4x128x128] <;> omega⟩
  rw [Host.dynamicSlice_eq_extractStridedSlice S1x8x4x128x128 X _ ![(n : ℕ), 0, 0, 0, 0] _ hs (start_eq w n hw)]
  pointwise
  all_goals blk_ext

/-- A stack of chunks with chunk `n` written, at chunk `k`. -/
theorem update_at (X : FVec Ideal S16x8x4x128x128 .f32) (U : FVec Ideal S8x4x128x128 .f32) (w : (⟨S_, .i32⟩ : BufTy).Contents (Elt Ideal)) (n k : Fin 16)
    (hw : w = fun _ => (BitVec.ofNat 32 n : BitVec 32)) (b : Fin 8) (h : Fin 4) (x d : Fin 128) :
    (Host.dynamicUpdateSlice X (broadcastInDim S1x8x4x128x128 ![1, 2, 3, 4] bcast_S8x4x128x128_S1x8x4x128x128_1_2_3_4 U) (fun k => (((![w, constantI S_ 32 0#32, constantI S_ 32 0#32, constantI S_ 32 0#32, constantI S_ 32 0#32] : Fin 5 → (⟨S_, .i32⟩ : BufTy).Contents (Elt Ideal))) k (Shape.Idx.first h_S_)).toInt) updateFits_S16x8x4x128x128_S1x8x4x128x128 : FVec Ideal S16x8x4x128x128 .f32) (ix5 k b h x d)
      = if k = n then U (ix4 b h x d) else X (ix5 k b h x d) := by
  have hs : S16x8x4x128x128.Slices ![(n : ℕ), 0, 0, 0, 0] S1x8x4x128x128 := ⟨rfl, fun a => by fin_cases a <;> simp [S16x8x4x128x128, S1x8x4x128x128] <;> omega⟩
  rw [WordCmp.dynamicUpdateSlice_eq_update X _ _ _ ![(n : ℕ), 0, 0, 0, 0] hs (start_eq w n hw)]
  pointwise
  by_cases e : k = n
  · subst e
    rw [if_pos rfl]
    exact dif_pos ⟨le_rfl, Nat.lt_succ_self _⟩
  · rw [if_neg e]
    exact dif_neg fun hc => e (Fin.ext (by omega))

/-- The queries of the trip's chunk. -/
theorem q_at (c : Dev nD) (n : Fin 16) (b : Fin 8) (h : Fin 4) (x d : Fin 128) :
    res_main_while0b_v59 (IT m c n) (ix4 b h x d) = (m ((c.tc : Thread nD τ).loc main_arg0) : FVec Ideal S8x2048x512 .f32) (ix3 b (row n x) (col h d)) := by
  refine (slice_at _ _ n (IT_ctr m c n) b h x d).trans ?_
  rw [IT_q, CH_at]
/-- The keys of the trip's chunk. -/
theorem k_at (c : Dev nD) (n : Fin 16) (b : Fin 8) (h : Fin 4) (x d : Fin 128) :
    res_main_while0b_v60 (IT m c n) (ix4 b h x d) = (m ((c.tc : Thread nD τ).loc main_arg1) : FVec Ideal S8x2048x512 .f32) (ix3 b (row n x) (col h d)) := by
  refine (slice_at _ _ n (IT_ctr m c n) b h x d).trans ?_
  rw [IT_k, CH_at]
/-- The values of the trip's chunk. -/
theorem v_at (c : Dev nD) (n : Fin 16) (b : Fin 8) (h : Fin 4) (x d : Fin 128) :
    res_main_while0b_v61 (IT m c n) (ix4 b h x d) = (m ((c.tc : Thread nD τ).loc main_arg2) : FVec Ideal S8x2048x512 .f32) (ix3 b (row n x) (col h d)) := by
  refine (slice_at _ _ n (IT_ctr m c n) b h x d).trans ?_
  rw [IT_v, CH_at]

/-- The state before trip `n` is the recurrence's. -/
theorem IT_s (c : Dev nD) (b : Fin 8) (h : Fin 4) : ∀ n, n ≤ 16 → ∀ d e : Fin 128,
    (IT m c n (Proc.devRef .tc main_v55_8) : FVec Ideal S8x4x128x128 .f32) (ix4 b h d e)
      = ST (m ((c.tc : Thread nD τ).loc main_arg1)) (m ((c.tc : Thread nD τ).loc main_arg2)) b h n d e
  | 0, _ => fun d e => by
    rw [show IT m c 0 = entryContents preI m c from rfl, entry_s]
    pointwise
    rfl
  | n + 1, hn => fun d e => by
    rw [IT_succ, STEP_main_v55_8]
    unfold step_main_v55_8 id
    have ih := IT_s c b h n (by omega) d e
    obtain ⟨i, hi⟩ : ∃ i : Fin 16, i.val = n := ⟨⟨n, by omega⟩, rfl⟩
    subst hi
    rw [IT_cd, IT_kd]
    have hk := k_at m c i b h
    have hv := v_at m c i b h
    generalize res_main_while0b_v60 (IT m c i) = KC at hk ⊢
    generalize res_main_while0b_v61 (IT m c i) = VC at hv ⊢
    generalize IT m c i (Proc.devRef .tc main_v55_8) = SC at ih ⊢
    pointwise
    simp only [ih, hk, hv]
    rfl

/-- A stacked output is its chunk's, from the state before the chunk. -/
theorem IT_o (c : Dev nD) (b : Fin 8) (h : Fin 4) : ∀ n, n ≤ 16 → ∀ k : Fin 16, k.val < n → ∀ q e : Fin 128,
    (IT m c n (Proc.devRef .tc main_v55_9) : FVec Ideal S16x8x4x128x128 .f32) (ix5 k b h q e)
      = outC (m ((c.tc : Thread nD τ).loc main_arg0)) (m ((c.tc : Thread nD τ).loc main_arg1)) (m ((c.tc : Thread nD τ).loc main_arg2)) b h k
          (ST (m ((c.tc : Thread nD τ).loc main_arg1)) (m ((c.tc : Thread nD τ).loc main_arg2)) b h k) q e
  | 0, _ => fun k hk => by omega
  | n + 1, hn => fun k hk q e => by
    rw [IT_succ, STEP_main_v55_9]
    unfold step_main_v55_9 id
    obtain ⟨i, hi⟩ : ∃ i : Fin 16, i.val = n := ⟨⟨n, by omega⟩, rfl⟩
    subst hi
    refine (update_at _ _ _ i k (IT_ctr m c i) b h q e).trans ?_
    by_cases hki : k = i
    · subst hki
      rw [if_pos rfl]
      have hs := IT_s m c b h k (by omega)
      have hq := q_at m c k b h
      have hk := k_at m c k b h
      have hv := v_at m c k b h
      rw [IT_dm, IT_qd]
      generalize res_main_while0b_v59 (IT m c k) = QC at hq ⊢
      generalize res_main_while0b_v60 (IT m c k) = KC at hk ⊢
      generalize res_main_while0b_v61 (IT m c k) = VC at hv ⊢
      generalize IT m c k (Proc.devRef .tc main_v55_8) = SC at hs ⊢
      pointwise
      simp only [hs, hq, hk, hv]
      rfl
    · rw [if_neg hki]
      exact IT_o c b h i (by omega) k (by have : k.val ≠ i.val := fun e => hki (Fin.ext e); omega) q e

/-- The state the reference's run ends with. -/
theorem state_at (c : Dev nD) (b : Fin 8) (h : Fin 4) (d e : Fin 128) :
    (IT m c 16 (Proc.devRef .tc main_v55_8) : FVec Ideal S8x4x128x128 .f32) (ix4 b h d e)
      = ST (m ((c.tc : Thread nD τ).loc main_arg1)) (m ((c.tc : Thread nD τ).loc main_arg2)) b h 16 d e :=
  IT_s m c b h 16 le_rfl d e

/-- The output the reference's run ends with. -/
theorem out_at (c : Dev nD) (b : Fin 8) (h : Fin 4) (n : Fin 16) (q e : Fin 128) :
    (out_main_v58 (IT m c 16) : FVec Ideal S8x2048x512 .f32) (ix3 b (row n q) (col h e))
      = outC (m ((c.tc : Thread nD τ).loc main_arg0)) (m ((c.tc : Thread nD τ).loc main_arg1)) (m ((c.tc : Thread nD τ).loc main_arg2)) b h n
          (ST (m ((c.tc : Thread nD τ).loc main_arg1)) (m ((c.tc : Thread nD τ).loc main_arg2)) b h n) q e := by
  rw [← IT_o m c b h 16 le_rfl n n.isLt q e]
  unfold out_main_v58
  generalize IT m c 16 (Proc.devRef .tc main_v55_9) = OC
  pointwise [row, col]
  blk_ext

end Cert.ReferenceIdeal.Value

end
-- ==== Proof.RetentionBlocks.lean ====
/- Retention: the blocks a grid point reads, and what the kernel's body makes of them. -/
module

public import proofs.«01_k».proof.Proof.RetentionRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- Which block each window shows at a grid point: the chunk's rows of the sequence and the head's columns, the head's tables, the head's state. -/
theorem idx : ∀ t : Fin cfg0.N, win0_0.index t = ![t.val / 64, t.val % 16, t.val / 16 % 4] ∧ win0_1.index t = ![t.val / 64, t.val % 16, t.val / 16 % 4]
    ∧ win0_2.index t = ![t.val / 64, t.val % 16, t.val / 16 % 4] ∧ win0_3.index t = ![t.val / 16 % 4, 0, 0] ∧ win0_4.index t = ![t.val / 16 % 4, 0, 0]
    ∧ win0_5.index t = ![t.val / 16 % 4, 0, 0] ∧ win0_6.index t = ![t.val / 16 % 4, 0, 0] ∧ win0_7.index t = ![t.val / 64, t.val / 16 % 4, 0, 0]
    ∧ win0_8.index t = ![t.val / 64, t.val % 16, t.val / 16 % 4] ∧ win0_9.index t = ![t.val / 64, t.val / 16 % 4, 0, 0] :=
  (by decide +kernel : ∀ t : Fin grid0.N, _)

/-- The sequence of a grid point. -/
def sq (t : Fin cfg0.N) : Fin 8 := ⟨t.val / 64, by have : t.val < 512 := lt_of_lt_of_eq t.isLt N_0; omega⟩
/-- The head of a grid point. -/
def hd (t : Fin cfg0.N) : Fin 4 := ⟨t.val / 16 % 4, Nat.mod_lt _ (by omega)⟩

/-- The queries' block. -/
theorem blk_q (c : Dev nD) (t : Fin cfg0.N) (x d : Fin 128) : (iblk m c 0 t : FVec Ideal S1x128x128 .f32) (ix3 0 x d)
    = (m ((c : Thread nD τ).loc main_arg0) : FVec Ideal S8x2048x512 .f32) (ix3 (sq t) (row (t.val % 16) x) (col (hd t) d)) := by
  have ht : t.val < 512 := lt_of_lt_of_eq t.isLt N_0
  blk_ext [iblk, V, idx t, sq, hd, row, col]
/-- The keys' block. -/
theorem blk_k (c : Dev nD) (t : Fin cfg0.N) (x d : Fin 128) : (iblk m c 1 t : FVec Ideal S1x128x128 .f32) (ix3 0 x d)
    = (m ((c : Thread nD τ).loc main_arg1) : FVec Ideal S8x2048x512 .f32) (ix3 (sq t) (row (t.val % 16) x) (col (hd t) d)) := by
  have ht : t.val < 512 := lt_of_lt_of_eq t.isLt N_0
  blk_ext [iblk, V, idx t, sq, hd, row, col]
/-- The values' block. -/
theorem blk_v (c : Dev nD) (t : Fin cfg0.N) (x d : Fin 128) : (iblk m c 2 t : FVec Ideal S1x128x128 .f32) (ix3 0 x d)
    = (m ((c : Thread nD τ).loc main_arg2) : FVec Ideal S8x2048x512 .f32) (ix3 (sq t) (row (t.val % 16) x) (col (hd t) d)) := by
  have ht : t.val < 512 := lt_of_lt_of_eq t.isLt N_0
  blk_ext [iblk, V, idx t, sq, hd, row, col]
/-- The block of the decay between positions. -/
theorem blk_dm (c : Dev nD) (t : Fin cfg0.N) (x y : Fin 128) : (iblk m c 3 t : FVec Ideal S1x128x128 .f32) (ix3 0 x y) = DM (ix3 (hd t) x y) := by
  have e : (iblk m c 3 t : FVec Ideal S1x128x128 .f32) (ix3 0 x y) = (V m c main_v25 : FVec Ideal S4x128x128 .f32) (ix3 (hd t) x y) := by blk_ext [iblk, idx t, hd]
  rw [e, V_dm]
/-- The block of the decay a query sees. -/
theorem blk_qd (c : Dev nD) (t : Fin cfg0.N) (x y : Fin 128) : (iblk m c 4 t : FVec Ideal S1x128x128 .f32) (ix3 0 x y) = QD (ix2 (hd t) x) := by
  have e : (iblk m c 4 t : FVec Ideal S1x128x128 .f32) (ix3 0 x y) = (V m c main_v51 : FVec Ideal S4x128x128 .f32) (ix3 (hd t) x y) := by blk_ext [iblk, idx t, hd]
  rw [e, V_qd]
  pointwise
/-- The block of the decay of a key. -/
theorem blk_kd (c : Dev nD) (t : Fin cfg0.N) (x y : Fin 128) : (iblk m c 5 t : FVec Ideal S1x128x128 .f32) (ix3 0 x y) = KD (ix2 (hd t) x) := by
  have e : (iblk m c 5 t : FVec Ideal S1x128x128 .f32) (ix3 0 x y) = (V m c main_v53 : FVec Ideal S4x128x128 .f32) (ix3 (hd t) x y) := by blk_ext [iblk, idx t, hd]
  rw [e, V_kd, ← KDM_eq]
  pointwise
/-- The block of the decay over a chunk. -/
theorem blk_cd (c : Dev nD) (t : Fin cfg0.N) (x : Fin 8) (y : Fin 128) : (iblk m c 6 t : FVec Ideal S1x8x128 .f32) (ix3 0 x y) = CD (ix1 (hd t)) := by
  have e : (iblk m c 6 t : FVec Ideal S1x8x128 .f32) (ix3 0 x y) = (V m c main_v55 : FVec Ideal S4x8x128 .f32) (ix3 (hd t) x y) := by blk_ext [iblk, idx t, hd]
  rw [e, V_cd]
  pointwise
/-- The block of the state to begin with. -/
theorem blk_s (c : Dev nD) (t : Fin cfg0.N) (x y : Fin 128) : (iblk m c 7 t : FVec Ideal S1x1x128x128 .f32) (ix4 0 0 x y) = (0 : EReal) := by
  have ht : t.val < 512 := lt_of_lt_of_eq t.isLt N_0
  have e : (iblk m c 7 t : FVec Ideal S1x1x128x128 .f32) (ix4 0 0 x y) = (V m c main_v0 : FVec Ideal S8x4x128x128 .f32) (ix4 (sq t) (hd t) x y) := by blk_ext [iblk, idx t, sq, hd]
  rw [e, V_s0]
  pointwise

/-- The kernel's state update on a chunk's blocks is one step of the recurrence. -/
theorem upd_at (c : Dev nD) (t : Fin cfg0.N) (S : FVec Ideal S128x128 .f32) (W : Fin 128 → Fin 128 → EReal) (hS : ∀ d e, S (ix2 d e) = W d e)
    (CDB : FVec Ideal S1x1x128 .f32) (hC : ∀ e, CDB (ix3 0 0 e) = CD (ix1 (hd t))) (d e : Fin 128) :
    k0_pay1 (k0_pay5 (iblk m c 1 t)) (k0_pay6 (iblk m c 2 t)) S (iblk m c 5 t) CDB (ix2 d e)
      = stNext (m ((c : Thread nD τ).loc main_arg1)) (m ((c : Thread nD τ).loc main_arg2)) (sq t) (hd t) (t.val % 16) W d e := by
  have hk := blk_k m c t
  have hv := blk_v m c t
  have hkd := blk_kd m c t
  generalize (iblk m c 1 t : FVec Ideal S1x128x128 .f32) = KB at hk ⊢
  generalize (iblk m c 2 t : FVec Ideal S1x128x128 .f32) = VB at hv ⊢
  generalize (iblk m c 5 t : FVec Ideal S1x128x128 .f32) = KDB at hkd ⊢
  pointwise [k0_pay1, k0_pay5, k0_pay6]
  simp only [hS, hC, hk, hv, hkd]
  rfl

/-- The kernel's output on a chunk's blocks is the chunk's output. -/
theorem out_at (c : Dev nD) (t : Fin cfg0.N) (S : FVec Ideal S128x128 .f32) (W : Fin 128 → Fin 128 → EReal) (hS : ∀ d e, S (ix2 d e) = W d e) (q e : Fin 128) :
    k0_pay7 (iblk m c 0 t) (iblk m c 1 t) (iblk m c 2 t) S (iblk m c 3 t) (iblk m c 4 t) (ix3 0 q e)
      = outC (m ((c : Thread nD τ).loc main_arg0)) (m ((c : Thread nD τ).loc main_arg1)) (m ((c : Thread nD τ).loc main_arg2)) (sq t) (hd t) (t.val % 16) W q e := by
  have hq := blk_q m c t
  have hk := blk_k m c t
  have hv := blk_v m c t
  have hdm := blk_dm m c t
  have hqd := blk_qd m c t
  generalize (iblk m c 0 t : FVec Ideal S1x128x128 .f32) = QB at hq ⊢
  generalize (iblk m c 1 t : FVec Ideal S1x128x128 .f32) = KB at hk ⊢
  generalize (iblk m c 2 t : FVec Ideal S1x128x128 .f32) = VB at hv ⊢
  generalize (iblk m c 3 t : FVec Ideal S1x128x128 .f32) = DMB at hdm ⊢
  generalize (iblk m c 4 t : FVec Ideal S1x128x128 .f32) = QDB at hqd ⊢
  pointwise [k0_pay7, k0_pay5, k0_pay6]
  simp only [hS, hq, hk, hv, hdm, hqd]
  rfl

end Cert.KernelIdeal.Value

end
-- ==== Proof.RetentionValue.lean ====
/- Retention: the kernel's two result arrays are the reference's. -/
module

public import proofs.«01_k».proof.Proof.RetentionBlocks
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The recurrence's state before a grid point's chunk. -/
abbrev stAt (c : Dev nD) (t : Fin cfg0.N) (n : ℕ) : Fin 128 → Fin 128 → EReal :=
  ST (m ((c : Thread nD τ).loc main_arg1)) (m ((c : Thread nD τ).loc main_arg2)) (sq t) (hd t) n

/-- The first row of a table's block. -/
def ldRow (B : (⟨S1x8x128, .f32⟩ : BufTy).Contents (Elt Ideal)) : (⟨S1x1x128, .f32⟩ : BufTy).Contents (Elt Ideal) :=
  View.ld B (Rect.unit ![0, 0, 0] ![1, 1, 128] inb_S1x8x128_S1x1x128_0_0_0)

theorem ldRow_at (B : FVec Ideal S1x8x128 .f32) (e : Fin 128) : (ldRow B : FVec Ideal S1x1x128 .f32) (ix3 0 0 e) = B (ix3 0 0 e) := by
  show B _ = B _
  congr 1
  blk_ext
  · rfl
  · show 0 + 1 * (e : ℕ) = e
    omega

/-- The row of the decay over a chunk that the body reads. -/
abbrev cdB (c : Dev nD) (t : Fin cfg0.N) : FVec Ideal S1x1x128 .f32 := ldRow (iblk m c 6 t)

theorem cdB_at (c : Dev nD) (t : Fin cfg0.N) (e : Fin 128) : cdB m c t (ix3 0 0 e) = CD (ix1 (hd t)) :=
  (ldRow_at (iblk m c 6 t) e).trans (blk_cd m c t 0 e)

/-- The state's scratch after a point: one step on from the state before its chunk. -/
abbrev scNew (c : Dev nD) (t : Fin cfg0.N) (S : FVec Ideal S128x128 .f32) : FVec Ideal S128x128 .f32 :=
  k0_pay1 (k0_pay5 (iblk m c 1 t)) (k0_pay6 (iblk m c 2 t)) S (iblk m c 5 t) (cdB m c t)

theorem pay2_eq (a b d e f) : (k0_pay2 a b d e f : FVec Ideal S128x128 .f32) = k0_pay1 a b d e f := by
  funext j
  pointwise [k0_pay2]

theorem pay4_at (c : Dev nD) (t : Fin cfg0.N) (d e : Fin 128) : k0_pay4 (iblk m c 7 t) (ix2 d e) = (0 : EReal) := by
  rw [← blk_s m c t d e]
  pointwise [k0_pay4]

/-- A point that starts a sequence's head: output, state and scratch from the zero state. -/
theorem point_A (c : Dev nD) (t : Fin cfg0.N) (h0 : t.val % 16 = 0) :
    (outsAt0 m c t.val t.isLt).1 = k0_pay7 (iblk m c 0 t) (iblk m c 1 t) (iblk m c 2 t) (k0_pay4 (iblk m c 7 t)) (iblk m c 3 t) (iblk m c 4 t)
    ∧ (outsAt0 m c t.val t.isLt).2.1 = k0_pay3 (k0_pay5 (iblk m c 1 t)) (k0_pay6 (iblk m c 2 t)) (k0_pay4 (iblk m c 7 t)) (iblk m c 5 t) (cdB m c t)
    ∧ (outsAt0 m c t.val t.isLt).2.2 = scNew m c t (k0_pay4 (iblk m c 7 t)) := by
  rw [outsAt0_A m c t h0]
  dsimp only
  refine ⟨?_, ?_, ?_⟩
  · frame_out
  · frame_out
    rfl
  · rw [scNew, ← pay2_eq]
    frame_out
    rfl

/-- A later point: output, state and scratch from what the point before left. -/
theorem point_B (c : Dev nD) (t : Fin cfg0.N) (h0 : ¬ t.val % 16 = 0) (S : FVec Ideal S128x128 .f32)
    (hS : (outsAt0 m c (t.val - 1) (Nat.lt_of_le_of_lt (Nat.sub_le _ _) t.isLt)).2.2 = S) :
    (outsAt0 m c t.val t.isLt).1 = k0_pay7 (iblk m c 0 t) (iblk m c 1 t) (iblk m c 2 t) S (iblk m c 3 t) (iblk m c 4 t)
    ∧ (outsAt0 m c t.val t.isLt).2.1 = k0_pay3 (k0_pay5 (iblk m c 1 t)) (k0_pay6 (iblk m c 2 t)) S (iblk m c 5 t) (cdB m c t)
    ∧ (outsAt0 m c t.val t.isLt).2.2 = scNew m c t S := by
  rw [outsAt0_B m c t h0, hS]
  dsimp only
  refine ⟨?_, ?_, ?_⟩
  · frame_out
    exact congrArg (fun x => k0_pay7 (iblk m c 0 t) (iblk m c 1 t) (iblk m c 2 t) x (iblk m c 3 t) (iblk m c 4 t)) (Memref.IsWhole.read_unread _ _)
  · frame_out
    exact congrArg (fun x => k0_pay3 (k0_pay5 (iblk m c 1 t)) (k0_pay6 (iblk m c 2 t)) x (iblk m c 5 t) (cdB m c t)) (Memref.IsWhole.read_unread _ _)
  · rw [scNew, ← pay2_eq]
    frame_out
    exact congrArg (fun x => k0_pay2 (k0_pay5 (iblk m c 1 t)) (k0_pay6 (iblk m c 2 t)) x (iblk m c 5 t) (cdB m c t)) (Memref.IsWhole.read_unread _ _)

/-- A step of the scratch is a step of the recurrence. -/
theorem scNew_at (c : Dev nD) (t : Fin cfg0.N) (S : FVec Ideal S128x128 .f32) (hS : ∀ d e, S (ix2 d e) = stAt m c t (t.val % 16) d e) (d e : Fin 128) :
    scNew m c t S (ix2 d e) = stAt m c t (t.val % 16 + 1) d e :=
  upd_at m c t S _ hS (cdB m c t) (cdB_at m c t) d e

/-- After every point the scratch holds the recurrence's state after the point's chunk. -/
theorem scratch_at (c : Dev nD) : ∀ (n : ℕ) (hn : n < cfg0.N) (d e : Fin 128),
    (outsAt0 m c n hn).2.2 (ix2 d e) = stAt m c ⟨n, hn⟩ (n % 16 + 1) d e := by
  intro n
  induction n with
  | zero =>
    intro hn d e
    have h := (point_A m c ⟨0, hn⟩ rfl).2.2
    have h' : (outsAt0 m c 0 hn).2.2 = scNew m c ⟨0, hn⟩ (k0_pay4 (iblk m c 7 ⟨0, hn⟩)) := h
    rw [h']
    exact scNew_at m c ⟨0, hn⟩ _ (fun d e => pay4_at m c _ d e) d e
  | succ n ih =>
    intro hn d e
    have hN : n + 1 < 512 := lt_of_lt_of_eq hn N_0
    by_cases h0 : (n + 1) % 16 = 0
    · have h' : (outsAt0 m c (n + 1) hn).2.2 = scNew m c ⟨n + 1, hn⟩ (k0_pay4 (iblk m c 7 ⟨n + 1, hn⟩)) := (point_A m c ⟨n + 1, hn⟩ h0).2.2
      rw [h']
      refine scNew_at m c ⟨n + 1, hn⟩ _ (fun d e => (pay4_at m c _ d e).trans ?_) d e
      show _ = stAt m c _ ((n + 1) % 16) d e
      rw [h0]
      rfl
    · have h' : (outsAt0 m c (n + 1) hn).2.2 = scNew m c ⟨n + 1, hn⟩ _ := (point_B m c ⟨n + 1, hn⟩ h0 _ rfl).2.2
      rw [h']
      refine scNew_at m c ⟨n + 1, hn⟩ _ (fun d e => (ih (by omega) d e).trans ?_) d e
      have e1 : sq ⟨n, by omega⟩ = sq ⟨n + 1, hn⟩ := Fin.ext (by show n / 64 = (n + 1) / 64; omega)
      have e2 : hd ⟨n, by omega⟩ = hd ⟨n + 1, hn⟩ := Fin.ext (by show n / 16 % 4 = (n + 1) / 16 % 4; omega)
      have e3 : n % 16 + 1 = (n + 1) % 16 := by omega
      show ST _ _ (sq _) (hd _) (n % 16 + 1) d e = ST _ _ (sq _) (hd _) ((n + 1) % 16) d e
      rw [e1, e2, e3]

/-- Before every point that does not start a head the scratch holds the recurrence's state before the point's chunk. -/
theorem before_at (c : Dev nD) (t : Fin cfg0.N) (h0 : ¬ t.val % 16 = 0) (d e : Fin 128) :
    (outsAt0 m c (t.val - 1) (Nat.lt_of_le_of_lt (Nat.sub_le _ _) t.isLt)).2.2 (ix2 d e) = stAt m c t (t.val % 16) d e := by
  refine (scratch_at m c (t.val - 1) _ d e).trans ?_
  have e1 : sq ⟨t.val - 1, Nat.lt_of_le_of_lt (Nat.sub_le _ _) t.isLt⟩ = sq t := Fin.ext (by show (t.val - 1) / 64 = t.val / 64; omega)
  have e2 : hd ⟨t.val - 1, Nat.lt_of_le_of_lt (Nat.sub_le _ _) t.isLt⟩ = hd t := Fin.ext (by show (t.val - 1) / 16 % 4 = t.val / 16 % 4; omega)
  have e3 : (t.val - 1) % 16 + 1 = t.val % 16 := by omega
  show ST _ _ (sq _) (hd _) _ d e = ST _ _ (sq _) (hd _) _ d e
  rw [e1, e2, e3]

/-- A point's output is its chunk's. -/
theorem o_at (c : Dev nD) (t : Fin cfg0.N) (q e : Fin 128) : (outsAt0 m c t.val t.isLt).1 (ix3 0 q e)
    = outC (m ((c : Thread nD τ).loc main_arg0)) (m ((c : Thread nD τ).loc main_arg1)) (m ((c : Thread nD τ).loc main_arg2)) (sq t) (hd t) (t.val % 16) (stAt m c t (t.val % 16)) q e := by
  by_cases h0 : t.val % 16 = 0
  · rw [(point_A m c t h0).1]
    refine out_at m c t _ _ (fun d e => (pay4_at m c t d e).trans ?_) q e
    rw [h0]
    rfl
  · rw [(point_B m c t h0 _ rfl).1]
    exact out_at m c t _ _ (before_at m c t h0) q e

/-- What a point writes to the state's block is the state after its chunk. -/
theorem s_at (c : Dev nD) (t : Fin cfg0.N) (d e : Fin 128) : (outsAt0 m c t.val t.isLt).2.1 (ix4 0 0 d e) = stAt m c t (t.val % 16 + 1) d e := by
  rw [← scratch_at m c t.val t.isLt d e]
  by_cases h0 : t.val % 16 = 0
  · rw [(point_A m c t h0).2.1, (point_A m c t h0).2.2]
    pointwise [k0_pay3]
  · rw [(point_B m c t h0 _ rfl).2.1, (point_B m c t h0 _ rfl).2.2]
    pointwise [k0_pay3]

open Cert.ReferenceIdeal.Value (IT)

/-- The two programs start from the same arguments. -/
abbrev Same (m' : (ℓ : Loc Cert.ReferenceIdeal.nD Cert.ReferenceIdeal.τ Cert.ReferenceIdeal.sig) → Buf (Elt Ideal) ℓ) (c : Dev nD) : Prop :=
  m' ((c.tc : Thread Cert.ReferenceIdeal.nD Cert.ReferenceIdeal.τ).loc Cert.ReferenceIdeal.main_arg0) = m ((c : Thread nD τ).loc main_arg0)
  ∧ m' ((c.tc : Thread Cert.ReferenceIdeal.nD Cert.ReferenceIdeal.τ).loc Cert.ReferenceIdeal.main_arg1) = m ((c : Thread nD τ).loc main_arg1)
  ∧ m' ((c.tc : Thread Cert.ReferenceIdeal.nD Cert.ReferenceIdeal.τ).loc Cert.ReferenceIdeal.main_arg2) = m ((c : Thread nD τ).loc main_arg2)

variable (m' : (ℓ : Loc Cert.ReferenceIdeal.nD Cert.ReferenceIdeal.τ Cert.ReferenceIdeal.sig) → Buf (Elt Ideal) ℓ)

/-- The output array after the run is the reference's. -/
theorem final_o (c : Dev nD) (h : Same m m' c) : (dats m 0 c).arrAt 8 (cfgs 0).N = Cert.ReferenceIdeal.Value.out_main_v58 (IT m' c 16) := by
  refine (dats m 0 c).arrAt_eq_of_covers 8 _ (by decide +kernel) fun t _ y => ?_
  have ht : t.val < 512 := lt_of_lt_of_eq t.isLt N_0
  blk_simp
  rw [after0_8]
  have hy : y = (ix3 0 (y 1) (y 2) : S1x128x128.Idx) := by blk_ext
  have hj : ((cfg0.win 8).blk t).view.emb y = (ix3 (sq t) (row (t.val % 16) (y 1)) (col (hd t) (y 2)) : S8x2048x512.Idx) := by
    blk_ext [idx t, sq, hd, row, col]
  rw [hj]
  have ho := Cert.ReferenceIdeal.Value.out_at m' c (sq t) (hd t) ⟨t.val % 16, by omega⟩ (y 1) (y 2)
  refine Eq.trans ?_ ho.symm
  rw [h.1, h.2.1, h.2.2]
  exact (congrArg _ hy).trans (o_at m c t (y 1) (y 2))

/-- The state array after the run is the reference's. -/
theorem final_s (c : Dev nD) (h : Same m m' c) : (dats m 0 c).arrAt 9 (cfgs 0).N = IT m' c 16 (Proc.devRef .tc Cert.ReferenceIdeal.main_v55_8) := by
  refine (dats m 0 c).arrAt_eq_of_covers 9 _ (by decide +kernel) fun t hf y => ?_
  have ht : t.val < 512 := lt_of_lt_of_eq t.isLt N_0
  have h15 : t.val % 16 = 15 := (flush0_9 t).mp hf
  blk_simp
  rw [after0_9]
  have hy : y = (ix4 0 0 (y 2) (y 3) : S1x1x128x128.Idx) := by blk_ext
  have hj : ((cfg0.win 9).blk t).view.emb y = (ix4 (sq t) (hd t) (y 2) (y 3) : S8x4x128x128.Idx) := by
    blk_ext [idx t, sq, hd]
  rw [hj]
  have ho := Cert.ReferenceIdeal.Value.state_at m' c (sq t) (hd t) (y 2) (y 3)
  refine Eq.trans ?_ ho.symm
  rw [h.2.1, h.2.2]
  refine (congrArg _ hy).trans ((s_at m c t (y 2) (y 3)).trans ?_)
  show ST _ _ _ _ (t.val % 16 + 1) _ _ = _
  rw [h15]

end Cert.KernelIdeal.Value

end
-- ==== Proof.FfnUpValue.lean ====
/- The up-projection: after its run the kernel's result array is the reference's term over the same arguments. -/
module

public import proofs.«01_k».proof.Proof.Gen.FfnUpIdeal.Frame
public import proofs.«01_k».proof.Proof.Gen.FfnUpRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnUpIdeal.Value

open Cert.FfnUpIdeal Cert.FfnUpIdeal.Gen

variable (m : (ℓ : Loc nD τ sig) → Buf (Elt Ideal) ℓ)

/-- The reference's result: the rows of `X`, normalised by the root of their mean square and scaled by `Gn`, times `Wt`. -/
abbrev REF (X : FVec Ideal Cert.FfnUpRefIdeal.S16896x1024 .f32) (Gn : FVec Ideal Cert.FfnUpRefIdeal.S1024 .f32)
    (Wt : FVec Ideal Cert.FfnUpRefIdeal.S1024x5632 .f32) : FVec Ideal Cert.FfnUpRefIdeal.S16896x5632 .f32 :=
  open Cert.FfnUpRefIdeal Cert.FfnUpRefIdeal.Gen in
  Host.dotGeneral dot_S16896x1024_S1024x5632_S16896x5632_1_0_0_1_n_n none (mulf (mulf X (broadcastInDim S16896x1024 ![0, 1] bcast_S16896x1_S16896x1024_0_1 (Host.rsqrt (addf (Host.divf (broadcastInDim S16896x1 ![0] bcast_S16896_S16896x1_0 (Host.reduceAdd (mulf X X) (constant S_ .f32 0x00000000#32) reducesTo_S16896x1024_S16896_d1 h_S_)) (broadcastInDim S16896x1 ![] bcast_S_S16896x1 (constant S_ .f32 0x44800000#32))) (broadcastInDim S16896x1 ![] bcast_S_S16896x1 (constant S_ .f32 0x358637BD#32)))))) (broadcastInDim S16896x1024 ![0, 1] bcast_S1x1024_S16896x1024_0_1 (broadcastInDim S1x1024 ![1] bcast_S1024_S1x1024_1 Gn))) Wt

/-- Which block each window shows at a grid point. -/
theorem idx : ∀ t : Fin cfg0.N, win0_0.index t = ![t.val / 4, 0] ∧ win0_1.index t = ![0, 0]
    ∧ win0_2.index t = ![0, t.val % 4] ∧ win0_3.index t = ![t.val / 4, t.val % 4] :=
  (by decide +kernel : ∀ t : Fin grid0.N, _)

/-- Inside a run of four points the row block stays the same. -/
theorem iblk0_pred (c : Dev nD) (t t' : Fin cfg0.N) (h : t.val = t'.val + 1) (h4 : ¬ t.val % 4 = 0) :
    iblk m c 0 t' = iblk m c 0 t := by
  have e : t'.val / 4 = t.val / 4 := by omega
  have i0 := (idx t).1
  have i0' := (idx t').1
  rw [e, ← i0] at i0'
  funext x
  blk_simp [iblk]
  congr 1
  blk_ext [i0']

/-- The scale's block is the whole array at every point. -/
theorem iblk1_const (c : Dev nD) (t t' : Fin cfg0.N) : iblk m c 1 t' = iblk m c 1 t := by
  have i0 := (idx t).2.1
  have i0' := (idx t').2.1
  rw [← i0] at i0'
  funext x
  blk_simp [iblk]
  congr 1
  blk_ext [i0']

/-- The kept scratch holds the normalised rows of the point's row block. -/
theorem scratch (c : Dev nD) (n : ℕ) (hn : n < cfg0.N) :
    (outsAt0 m c n hn).2 = k0_pay1 (iblk m c 0 ⟨n, hn⟩) (iblk m c 1 ⟨n, hn⟩) := by
  induction n with
  | zero => rw [outsAt0_A m c ⟨0, hn⟩ rfl]; frame_out
  | succ n ih =>
    by_cases h : (n + 1) % 4 = 0
    · rw [outsAt0_A m c ⟨n + 1, hn⟩ h]; frame_out
    · rw [outsAt0_B m c ⟨n + 1, hn⟩ h]; frame_out
      refine (ih (Nat.lt_of_succ_lt hn)).trans ?_
      rw [iblk0_pred m c ⟨n + 1, hn⟩ ⟨n, Nat.lt_of_succ_lt hn⟩ rfl h, iblk1_const m c ⟨n + 1, hn⟩ ⟨n, Nat.lt_of_succ_lt hn⟩]

/-- One entry of a point's product is the reference's entry at the place the block puts it. -/
theorem point (c : Dev nD) (t : Fin cfg0.N) (y) :
    k0_pay2 (k0_pay1 (iblk m c 0 t) (iblk m c 1 t)) (iblk m c 2 t) y
      = REF (m ((c : Thread nD τ).loc main_arg0)) (m ((c : Thread nD τ).loc main_arg1)) (m ((c : Thread nD τ).loc main_arg2))
          (((cfg0.win 3).blk t).view.emb y) := by
  pointwise [k0_pay1, k0_pay2, REF]
  blk_point [iblk, V, idx t]

/-- What a point leaves in the result's block. -/
theorem outs (c : Dev nD) (t : Fin cfg0.N) :
    (outsAt0 m c t.val t.isLt).1 = k0_pay2 (k0_pay1 (iblk m c 0 t) (iblk m c 1 t)) (iblk m c 2 t) := by
  by_cases h : t.val % 4 = 0
  · rw [outsAt0_A m c t h]; frame_out
  · rw [outsAt0_B m c t h, scratch m c (t.val - 1), iblk0_pred m c t ⟨t.val - 1, _⟩ (by simp only []; omega) h,
      iblk1_const m c t ⟨t.val - 1, _⟩]
    frame_out
    exact congrArg (fun x => k0_pay2 x _) (Memref.IsWhole.read_unread _ _)

/-- The result array after the run is the reference's term. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, outs]
  exact point m c t y

end Cert.FfnUpIdeal.Value

end
-- ==== Proof.FfnDownRows.lean ====
/- The down-projection: the operands the call gets, row by row, and the reference's result taken apart. -/
module

public import proofs.«01_k».proof.Proof.Gen.FfnDownIdeal.Frame
public import proofs.«01_k».proof.Proof.Gen.FfnDownRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnDownRefIdeal.Value

open Cert.FfnDownRefIdeal Cert.FfnDownRefIdeal.Gen

/-- Prompt rows: the gate's half of the up-projection with the two rows before it in front. -/
def extP (X : FVec Ideal S16896x5632 .f32) (St : FVec Ideal S8x2x2816 .f32) : FVec Ideal S8x2050x2816 .f32 :=
  concatenate S8x2050x2816 1 [⟨S8x2x2816, St⟩, ⟨S8x2048x2816, (extractStridedSlice S8x2048x2816 ![0, 0, 0] (shapeCast _ (extractStridedSlice S16384x5632 ![0, 0] X slices_S16896x5632_S16384x5632_0_0) shapeCasts_S16384x5632_S8x2048x5632) slices_S8x2048x5632_S8x2048x2816_0_0_0)⟩] concatenates_S8x2x2816_S8x2048x2816_S8x2050x2816_d1

/-- Prompt rows: bias and three taps of the causal convolution over the rows `E`. -/
def preP (E : FVec Ideal S8x2050x2816 .f32) (Cw : FVec Ideal S3x2816 .f32) (Cb : FVec Ideal S2816 .f32) : FVec Ideal S8x2048x2816 .f32 :=
  addf (addf (addf (broadcastInDim S8x2048x2816 ![0, 1, 2] bcast_S1x1x2816_S8x2048x2816_0_1_2 (broadcastInDim S1x1x2816 ![2] bcast_S2816_S1x1x2816_2 Cb)) (mulf (extractStridedSlice S8x2048x2816 ![0, 0, 0] E slices_S8x2050x2816_S8x2048x2816_0_0_0) (broadcastInDim S8x2048x2816 ![0, 1, 2] bcast_S1x1x2816_S8x2048x2816_0_1_2 (broadcastInDim S1x1x2816 ![2] bcast_S2816_S1x1x2816_2 (shapeCast _ (extractStridedSlice S1x2816 ![0, 0] Cw slices_S3x2816_S1x2816_0_0) shapeCasts_S1x2816_S2816))))) (mulf (extractStridedSlice S8x2048x2816 ![0, 1, 0] E slices_S8x2050x2816_S8x2048x2816_0_1_0) (broadcastInDim S8x2048x2816 ![0, 1, 2] bcast_S1x1x2816_S8x2048x2816_0_1_2 (broadcastInDim S1x1x2816 ![2] bcast_S2816_S1x1x2816_2 (shapeCast _ (extractStridedSlice S1x2816 ![1, 0] Cw slices_S3x2816_S1x2816_1_0) shapeCasts_S1x2816_S2816))))) (mulf (extractStridedSlice S8x2048x2816 ![0, 2, 0] E slices_S8x2050x2816_S8x2048x2816_0_2_0) (broadcastInDim S8x2048x2816 ![0, 1, 2] bcast_S1x1x2816_S8x2048x2816_0_1_2 (broadcastInDim S1x1x2816 ![2] bcast_S2816_S1x1x2816_2 (shapeCast _ (extractStridedSlice S1x2816 ![2, 0] Cw slices_S3x2816_S1x2816_2_0) shapeCasts_S1x2816_S2816))))

/-- Prompt rows: the gated rows, the convolution's value times its logistic times the other half of the up-projection. -/
def gateP (P : FVec Ideal S8x2048x2816 .f32) (X : FVec Ideal S16896x5632 .f32) : FVec Ideal S8x2048x2816 .f32 :=
  mulf (mulf P (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf P))))) (extractStridedSlice S8x2048x2816 ![0, 0, 2816] (shapeCast _ (extractStridedSlice S16384x5632 ![0, 0] X slices_S16896x5632_S16384x5632_0_0) shapeCasts_S16384x5632_S8x2048x5632) slices_S8x2048x5632_S8x2048x2816_0_0_2816)

/-- Prompt rows: the gated rows times the down weights. -/
def outP (G : FVec Ideal S8x2048x2816 .f32) (Wd : FVec Ideal S2816x1024 .f32) : FVec Ideal S16384x1024 .f32 :=
  shapeCast _ (Host.dotGeneral dot_S8x2048x2816_S2816x1024_S8x2048x1024_2_0_01_1_n_n none G Wd) shapeCasts_S8x2048x1024_S16384x1024

/-- Sample rows: the gate's half of the up-projection with the two rows before it in front. -/
def extS (X : FVec Ideal S16896x5632 .f32) (St : FVec Ideal S128x2x2816 .f32) : FVec Ideal S128x6x2816 .f32 :=
  concatenate S128x6x2816 1 [⟨S128x2x2816, St⟩, ⟨S128x4x2816, (extractStridedSlice S128x4x2816 ![0, 0, 0] (shapeCast _ (extractStridedSlice S512x5632 ![16384, 0] X slices_S16896x5632_S512x5632_16384_0) shapeCasts_S512x5632_S128x4x5632) slices_S128x4x5632_S128x4x2816_0_0_0)⟩] concatenates_S128x2x2816_S128x4x2816_S128x6x2816_d1

/-- Sample rows: bias and three taps of the causal convolution over the rows `E`. -/
def preS (E : FVec Ideal S128x6x2816 .f32) (Cw : FVec Ideal S3x2816 .f32) (Cb : FVec Ideal S2816 .f32) : FVec Ideal S128x4x2816 .f32 :=
  addf (addf (addf (broadcastInDim S128x4x2816 ![0, 1, 2] bcast_S1x1x2816_S128x4x2816_0_1_2 (broadcastInDim S1x1x2816 ![2] bcast_S2816_S1x1x2816_2 Cb)) (mulf (extractStridedSlice S128x4x2816 ![0, 0, 0] E slices_S128x6x2816_S128x4x2816_0_0_0) (broadcastInDim S128x4x2816 ![0, 1, 2] bcast_S1x1x2816_S128x4x2816_0_1_2 (broadcastInDim S1x1x2816 ![2] bcast_S2816_S1x1x2816_2 (shapeCast _ (extractStridedSlice S1x2816 ![0, 0] Cw slices_S3x2816_S1x2816_0_0) shapeCasts_S1x2816_S2816))))) (mulf (extractStridedSlice S128x4x2816 ![0, 1, 0] E slices_S128x6x2816_S128x4x2816_0_1_0) (broadcastInDim S128x4x2816 ![0, 1, 2] bcast_S1x1x2816_S128x4x2816_0_1_2 (broadcastInDim S1x1x2816 ![2] bcast_S2816_S1x1x2816_2 (shapeCast _ (extractStridedSlice S1x2816 ![1, 0] Cw slices_S3x2816_S1x2816_1_0) shapeCasts_S1x2816_S2816))))) (mulf (extractStridedSlice S128x4x2816 ![0, 2, 0] E slices_S128x6x2816_S128x4x2816_0_2_0) (broadcastInDim S128x4x2816 ![0, 1, 2] bcast_S1x1x2816_S128x4x2816_0_1_2 (broadcastInDim S1x1x2816 ![2] bcast_S2816_S1x1x2816_2 (shapeCast _ (extractStridedSlice S1x2816 ![2, 0] Cw slices_S3x2816_S1x2816_2_0) shapeCasts_S1x2816_S2816))))

/-- Sample rows: the gated rows, the convolution's value times its logistic times the other half of the up-projection. -/
def gateS (P : FVec Ideal S128x4x2816 .f32) (X : FVec Ideal S16896x5632 .f32) : FVec Ideal S128x4x2816 .f32 :=
  mulf (mulf P (Host.divf (broadcastInDim S128x4x2816 ![] bcast_S_S128x4x2816 (constant S_ .f32 0x3F800000#32)) (addf (broadcastInDim S128x4x2816 ![] bcast_S_S128x4x2816 (constant S_ .f32 0x3F800000#32)) (Host.exp (Host.negf P))))) (extractStridedSlice S128x4x2816 ![0, 0, 2816] (shapeCast _ (extractStridedSlice S512x5632 ![16384, 0] X slices_S16896x5632_S512x5632_16384_0) shapeCasts_S512x5632_S128x4x5632) slices_S128x4x5632_S128x4x2816_0_0_2816)

/-- Sample rows: the gated rows times the down weights. -/
def outS (G : FVec Ideal S128x4x2816 .f32) (Wd : FVec Ideal S2816x1024 .f32) : FVec Ideal S512x1024 .f32 :=
  shapeCast _ (Host.dotGeneral dot_S128x4x2816_S2816x1024_S128x4x1024_2_0_01_1_n_n none G Wd) shapeCasts_S128x4x1024_S512x1024

/-- The rows in front of every prompt: zeros. -/
def zeroP : FVec Ideal S8x2x2816 .f32 := broadcastInDim S8x2x2816 ![] bcast_S_S8x2x2816 (constant S_ .f32 0x00000000#32)

/-- The reference's result: the residual plus the prompt's rows followed by the sample's. -/
def REF (X : FVec Ideal S16896x5632 .f32) (St : FVec Ideal S128x2x2816 .f32) (Cw : FVec Ideal S3x2816 .f32)
    (Cb : FVec Ideal S2816 .f32) (Wd : FVec Ideal S2816x1024 .f32) (H : FVec Ideal S16896x1024 .f32) : FVec Ideal S16896x1024 .f32 :=
  addf H (concatenate S16896x1024 0 [⟨S16384x1024, outP (gateP (preP (extP X zeroP) Cw Cb) X) Wd⟩, ⟨S512x1024, outS (gateS (preS (extS X St) Cw Cb) X) Wd⟩] concatenates_S16384x1024_S512x1024_S16896x1024_d0)

/-- The reference's run ends at that term. -/
theorem res_eq (m : (ℓ : Loc nD τ sig) → Buf (Elt Ideal) ℓ) (c : Dev nD) : res_main_v66 m c
    = REF (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := rfl

end Cert.FfnDownRefIdeal.Value

namespace Cert.FfnDownIdeal.Value

open Cert.FfnDownIdeal Cert.FfnDownIdeal.Gen
open Cert.FfnDownRefIdeal.Value (REF outP outS gateP gateS preP preS extP extS zeroP)

variable (m : (ℓ : Loc nD τ sig) → Buf (Elt Ideal) ℓ)

/-- Which block each window shows at a grid point. -/
theorem idx : ∀ t : Fin cfg0.N, win0_0.index t = ![t.val, 0] ∧ win0_1.index t = ![t.val, 0] ∧ win0_2.index t = ![t.val, 0]
    ∧ win0_3.index t = ![t.val, 1] ∧ win0_4.index t = ![0, 0] ∧ win0_5.index t = ![0, 0] ∧ win0_6.index t = ![0, 0]
    ∧ win0_7.index t = ![t.val, 0] ∧ win0_8.index t = ![t.val, 0] :=
  (by decide +kernel : ∀ t : Fin grid0.N, _)

/-- Row by row the gate's half of the up-projection one row earlier: before a prompt's first row zero, before a sample's first row its state. -/
def A1 (X : FVec Ideal S16896x5632 .f32) (St : FVec Ideal S128x2x2816 .f32) : FVec Ideal S16896x2816 .f32 :=
  concatenate S16896x2816 0
    [⟨S16384x2816, shapeCast _ (pad S8x2048x2816 ![0, 1, 0] ![0, 0, 0] ![0, 0, 0]
        (extractStridedSlice S8x2047x2816 ![0, 0, 0] (shapeCast S8x2048x2816 (extractStridedSlice S16384x2816 ![0, 0] X slices_S16896x5632_S16384x2816_0_0) shapeCasts_S16384x2816_S8x2048x2816) slices_S8x2048x2816_S8x2047x2816_0_0_0)
        (sitofp .f32 (constantI S_ 32 0#32)) pads_S8x2047x2816_S8x2048x2816_000_100_000 h_S_) shapeCasts_S8x2048x2816_S16384x2816⟩,
      ⟨S512x2816, shapeCast _ (extractStridedSlice S128x4x2816 ![0, 1, 0] (concatenate S128x6x2816 1 [⟨S128x2x2816, St⟩, ⟨S128x4x2816, shapeCast _ (extractStridedSlice S512x2816 ![16384, 0] X slices_S16896x5632_S512x2816_16384_0) shapeCasts_S512x2816_S128x4x2816⟩] concatenates_S128x2x2816_S128x4x2816_S128x6x2816_d1) slices_S128x6x2816_S128x4x2816_0_1_0) shapeCasts_S128x4x2816_S512x2816⟩]
    concatenates_S16384x2816_S512x2816_S16896x2816_d0

/-- The same two rows earlier. -/
def A2 (X : FVec Ideal S16896x5632 .f32) (St : FVec Ideal S128x2x2816 .f32) : FVec Ideal S16896x2816 .f32 :=
  concatenate S16896x2816 0
    [⟨S16384x2816, shapeCast _ (pad S8x2048x2816 ![0, 2, 0] ![0, 0, 0] ![0, 0, 0]
        (extractStridedSlice S8x2046x2816 ![0, 0, 0] (shapeCast S8x2048x2816 (extractStridedSlice S16384x2816 ![0, 0] X slices_S16896x5632_S16384x2816_0_0) shapeCasts_S16384x2816_S8x2048x2816) slices_S8x2048x2816_S8x2046x2816_0_0_0)
        (sitofp .f32 (constantI S_ 32 0#32)) pads_S8x2046x2816_S8x2048x2816_000_200_000 h_S_) shapeCasts_S8x2048x2816_S16384x2816⟩,
      ⟨S512x2816, shapeCast _ (extractStridedSlice S128x4x2816 ![0, 0, 0] (concatenate S128x6x2816 1 [⟨S128x2x2816, St⟩, ⟨S128x4x2816, shapeCast _ (extractStridedSlice S512x2816 ![16384, 0] X slices_S16896x5632_S512x2816_16384_0) shapeCasts_S512x2816_S128x4x2816⟩] concatenates_S128x2x2816_S128x4x2816_S128x6x2816_d1) slices_S128x6x2816_S128x4x2816_0_0_0) shapeCasts_S128x4x2816_S512x2816⟩]
    concatenates_S16384x2816_S512x2816_S16896x2816_d0

/-- What the call's second operand holds. -/
theorem V_a1 (c : Dev nD) : V m c main_v10 = A1 (m ((c : Thread nD τ).loc main_arg0)) (m ((c : Thread nD τ).loc main_arg1)) := by
  unfold V
  simp only [hostOps0, hostOps0_1, hostOps0_2, hostOps0_3, hostOps0_4, List.flatten_cons, List.flatten_nil, List.append_nil, List.cons_append, List.nil_append]
  after_results
  rfl

/-- What the call's third operand holds. -/
theorem V_a2 (c : Dev nD) : V m c main_v16 = A2 (m ((c : Thread nD τ).loc main_arg0)) (m ((c : Thread nD τ).loc main_arg1)) := by
  unfold V
  simp only [hostOps0, hostOps0_1, hostOps0_2, hostOps0_3, hostOps0_4, List.flatten_cons, List.flatten_nil, List.append_nil, List.cons_append, List.nil_append]
  after_results
  rfl

/-- The bias as the call gets it. -/
theorem V_b (c : Dev nD) : V m c main_v18 = shapeCast S1x2816 (m ((c : Thread nD τ).loc main_arg3)) shapeCasts_S2816_S1x2816 := by
  unfold V
  simp only [hostOps0, hostOps0_1, hostOps0_2, hostOps0_3, hostOps0_4, List.flatten_cons, List.flatten_nil, List.append_nil, List.cons_append, List.nil_append]
  after_results
  rfl

/-- The down weights as the call gets them. -/
theorem V_w (c : Dev nD) : V m c main_v17 = (m ((c : Thread nD τ).loc main_arg4) : FVec Ideal S2816x1024 .f32) := by
  unfold V
  simp only [hostOps0, hostOps0_1, hostOps0_2, hostOps0_3, hostOps0_4, List.flatten_cons, List.flatten_nil, List.append_nil, List.cons_append, List.nil_append]
  after_results
  rfl

/-- The gated value: a convolution value times its logistic times the other half. -/
def gated (c u : EReal) : EReal := c * Ideal.logistic c * u

/-- Three taps on a bias. -/
def taps (b e0 w0 e1 w1 e2 w2 : EReal) : EReal := b + e0 * w0 + e1 * w1 + e2 * w2

/-- An entry of the prompt rows' product. -/
theorem outP_at (E X Cw Cb Wd) (r : Fin 16384) (d : Fin 1024) : outP (gateP (preP E Cw Cb) X) Wd (ix2 r d)
    = ∑ x : Fin 2816, gated (taps (Cb (ix1 x)) (E (ix3 ⟨r / 2048, by omega⟩ ⟨r % 2048, by omega⟩ x)) (Cw (ix2 0 x))
        (E (ix3 ⟨r / 2048, by omega⟩ ⟨1 + r % 2048, by omega⟩ x)) (Cw (ix2 1 x))
        (E (ix3 ⟨r / 2048, by omega⟩ ⟨2 + r % 2048, by omega⟩ x)) (Cw (ix2 2 x)))
      (X (ix2 ⟨r, by omega⟩ ⟨2816 + x, by omega⟩)) * Wd (ix2 x d) := by
  pointwise [outP, gateP, preP]
  refine Finset.sum_congr rfl fun x _ => ?_
  unfold gated taps
  congr 2
  blk_ext

/-- An entry of the sample rows' product. -/
theorem outS_at (E X Cw Cb Wd) (r : Fin 512) (d : Fin 1024) : outS (gateS (preS E Cw Cb) X) Wd (ix2 r d)
    = ∑ x : Fin 2816, gated (taps (Cb (ix1 x)) (E (ix3 ⟨r / 4, by omega⟩ ⟨r % 4, by omega⟩ x)) (Cw (ix2 0 x))
        (E (ix3 ⟨r / 4, by omega⟩ ⟨1 + r % 4, by omega⟩ x)) (Cw (ix2 1 x))
        (E (ix3 ⟨r / 4, by omega⟩ ⟨2 + r % 4, by omega⟩ x)) (Cw (ix2 2 x)))
      (X (ix2 ⟨16384 + r, by omega⟩ ⟨2816 + x, by omega⟩)) * Wd (ix2 x d) := by
  pointwise [outS, gateS, preS]
  refine Finset.sum_congr rfl fun x _ => ?_
  unfold gated taps
  congr 2
  blk_ext

/-- The integer zero read as a number. -/
theorem sitofp_zero : (FloatOps.sitofp FTy.f32 (0#32) : Ideal .f32) = (0 : EReal) := by
  simp [FloatOps.sitofp]

/-- On prompt rows the operand one row earlier is the extended rows' entry. -/
theorem A1_P (X St) (r : Fin 16896) (k : Fin 2816) (h : r.val < 16384) :
    A1 X St (ix2 r k) = extP X zeroP (ix3 ⟨r / 2048, by omega⟩ ⟨1 + r % 2048, by omega⟩ k) := by
  pointwise [A1, extP, zeroP]
  by_cases h1 : 1 ≤ r.val % 2048
  · have hc : r.val / 2048 < 8 ∧ 1 ≤ r.val % 2048 ∧ r.val % 2048 - 1 < 2047 := by omega
    have hu : ¬ 1 + r.val % 2048 < 2 := by omega
    simp only [dif_pos h, dif_pos hc, dif_neg hu]
    blk_ext
  · have hc : ¬ (r.val / 2048 < 8 ∧ 1 ≤ r.val % 2048 ∧ r.val % 2048 - 1 < 2047) := by omega
    have hu : 1 + r.val % 2048 < 2 := by omega
    simp only [dif_pos h, dif_neg hc, dif_pos hu]
    exact sitofp_zero

set_option maxRecDepth 200000 in
/-- On prompt rows the operand two rows earlier is the extended rows' entry. -/
theorem A2_P (X St) (r : Fin 16896) (k : Fin 2816) (h : r.val < 16384) :
    A2 X St (ix2 r k) = extP X zeroP (ix3 ⟨r / 2048, by omega⟩ ⟨r % 2048, by omega⟩ k) := by
  pointwise [A2, extP, zeroP]
  by_cases h1 : 2 ≤ r.val % 2048
  · have hc : r.val / 2048 < 8 ∧ 2 ≤ r.val % 2048 ∧ r.val % 2048 - 2 < 2046 := by omega
    have hu : ¬ r.val % 2048 < 2 := by omega
    simp only [dif_pos h, dif_pos hc, dif_neg hu]
    blk_ext
  · have hc : ¬ (r.val / 2048 < 8 ∧ 2 ≤ r.val % 2048 ∧ r.val % 2048 - 2 < 2046) := by omega
    have hu : r.val % 2048 < 2 := by omega
    simp only [dif_pos h, dif_neg hc, dif_pos hu]
    exact sitofp_zero

/-- On prompt rows the row itself is the extended rows' entry. -/
theorem A0_P (X) (r : Fin 16896) (k : Fin 2816) (h : r.val < 16384) :
    X (ix2 r ⟨k, by omega⟩) = extP X zeroP (ix3 ⟨r / 2048, by omega⟩ ⟨2 + r % 2048, by omega⟩ k) := by
  pointwise [extP, zeroP]
  blk_ext

/-- On sample rows the operand one row earlier is the extended rows' entry. -/
theorem A1_S (X St) (r : Fin 16896) (k : Fin 2816) (h : ¬ r.val < 16384) :
    A1 X St (ix2 r k) = extS X St (ix3 ⟨(r - 16384) / 4, by omega⟩ ⟨1 + (r - 16384) % 4, by omega⟩ k) := by
  pointwise [A1, extS]
  rw [dif_neg h]

set_option maxRecDepth 200000 in
/-- On sample rows the operand two rows earlier is the extended rows' entry. -/
theorem A2_S (X St) (r : Fin 16896) (k : Fin 2816) (h : ¬ r.val < 16384) :
    A2 X St (ix2 r k) = extS X St (ix3 ⟨(r - 16384) / 4, by omega⟩ ⟨(r - 16384) % 4, by omega⟩ k) := by
  pointwise [A2, extS]
  rw [dif_neg h]

set_option maxRecDepth 200000 in
/-- On sample rows the row itself is the extended rows' entry. -/
theorem A0_S (X St) (r : Fin 16896) (k : Fin 2816) (h : ¬ r.val < 16384) :
    X (ix2 r ⟨k, by omega⟩) = extS X St (ix3 ⟨(r - 16384) / 4, by omega⟩ ⟨2 + (r - 16384) % 4, by omega⟩ k) := by
  pointwise [extS]
  blk_ext

end Cert.FfnDownIdeal.Value

end
-- ==== Proof.FfnDownValue.lean ====
/- The down-projection: after its run the kernel's result array is the reference's term over the same arguments. -/
module

public import proofs.«01_k».proof.Proof.Gen.FfnDownIdeal.Frame
public import proofs.«01_k».proof.Proof.Gen.FfnDownRefIdeal.Run
public import proofs.«01_k».proof.Proof.FfnDownRows
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnDownIdeal.Value

open Cert.FfnDownIdeal Cert.FfnDownIdeal.Gen
open Cert.FfnDownRefIdeal.Value (REF outP outS gateP gateS preP preS extP extS zeroP)

variable (m : (ℓ : Loc nD τ sig) → Buf (Elt Ideal) ℓ)

set_option maxRecDepth 200000 in
/-- An entry of the reference's result, from the rows one and two earlier. -/
theorem REF_at (X St Cw Cb Wd H) (r : Fin 16896) (d : Fin 1024) : REF X St Cw Cb Wd H (ix2 r d)
    = (∑ x : Fin 2816, gated (taps (Cb (ix1 x)) (A2 X St (ix2 r x)) (Cw (ix2 0 x)) (A1 X St (ix2 r x)) (Cw (ix2 1 x))
        (X (ix2 r ⟨x, by omega⟩)) (Cw (ix2 2 x))) (X (ix2 r ⟨2816 + x, by omega⟩)) * Wd (ix2 x d)) + H (ix2 r d) := by
  pointwise [REF]
  rw [add_comm]
  congr 1
  by_cases h : (r : ℕ) < 16384
  · rw [dif_pos h, outP_at]
    refine Finset.sum_congr rfl fun x _ => ?_
    rw [A1_P _ _ _ _ h, A2_P _ _ _ _ h, A0_P X _ x h]
  · rw [dif_neg h, outS_at]
    refine Finset.sum_congr rfl fun x _ => ?_
    rw [A1_S _ _ _ _ h, A2_S _ _ _ _ h, A0_S X St _ x h]
    congr 2
    blk_ext

set_option maxHeartbeats 1000000 in
/-- One entry of a point's result is the reference's entry at the place the block puts it. -/
theorem point (c : Dev nD) (t : Fin cfg0.N) (y) :
    out0_8 (iblk m c 0 t) (iblk m c 1 t) (iblk m c 2 t) (iblk m c 3 t) (iblk m c 4 t) (iblk m c 5 t) (iblk m c 6 t) (iblk m c 7 t) y
      = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 8).blk t).view.emb y) := by
  have ht : t.val < 66 := lt_of_lt_of_eq t.isLt N_0
  have hj : ((cfg0.win 8).blk t).view.emb y = (ix2 (⟨t.val * 256 + (y 0 : ℕ), by have : (y 0 : ℕ) < 256 := (y 0).isLt; omega⟩ : Fin 16896) (y 1) : S16896x1024.Idx) := by
    blk_ext [idx t]
  rw [hj]
  obtain ⟨r, hr⟩ : ∃ r : Fin 16896, r.val = t.val * 256 + (y 0 : ℕ) := ⟨⟨_, by have : (y 0 : ℕ) < 256 := (y 0).isLt; omega⟩, rfl⟩
  have hr' : (⟨t.val * 256 + (y 0 : ℕ), by have : (y 0 : ℕ) < 256 := (y 0).isLt; omega⟩ : Fin 16896) = r := Fin.ext hr.symm
  rw [hr']
  clear hj hr'
  refine Eq.trans ?_ (REF_at _ _ _ _ _ _ r (y 1)).symm
  have h0 : ∀ x : Fin 2816, (iblk m c 0 t : FVec Ideal S256x2816 .f32) (ix2 (y 0) x) = (m ((c : Thread nD τ).loc main_arg0) : FVec Ideal S16896x5632 .f32) (ix2 r ⟨x, by omega⟩) := fun x => by
    blk_ext [iblk, V, idx t, hr]
  have h1 : ∀ x : Fin 2816, (iblk m c 1 t : FVec Ideal S256x2816 .f32) (ix2 (y 0) x) = A1 (m ((c : Thread nD τ).loc main_arg0)) (m ((c : Thread nD τ).loc main_arg1)) (ix2 r x) := fun x => by
    rw [← V_a1]; blk_ext [iblk, idx t, hr]
  have h2 : ∀ x : Fin 2816, (iblk m c 2 t : FVec Ideal S256x2816 .f32) (ix2 (y 0) x) = A2 (m ((c : Thread nD τ).loc main_arg0)) (m ((c : Thread nD τ).loc main_arg1)) (ix2 r x) := fun x => by
    rw [← V_a2]; blk_ext [iblk, idx t, hr]
  have h3 : ∀ x : Fin 2816, (iblk m c 3 t : FVec Ideal S256x2816 .f32) (ix2 (y 0) x) = (m ((c : Thread nD τ).loc main_arg0) : FVec Ideal S16896x5632 .f32) (ix2 r ⟨2816 + x, by omega⟩) := fun x => by
    blk_ext [iblk, V, idx t, hr]
  have h4 : ∀ (i : Fin 3) (x : Fin 2816), (iblk m c 4 t : FVec Ideal S3x2816 .f32) (ix2 i x) = (m ((c : Thread nD τ).loc main_arg2) : FVec Ideal S3x2816 .f32) (ix2 i x) := fun i x => by
    blk_ext [iblk, V, idx t]
  have h5 : ∀ x : Fin 2816, (iblk m c 5 t : FVec Ideal S1x2816 .f32) (ix2 0 x) = (m ((c : Thread nD τ).loc main_arg3) : FVec Ideal S2816 .f32) (ix1 x) := fun x => by
    have e : (iblk m c 5 t : FVec Ideal S1x2816 .f32) (ix2 0 x) = (V m c main_v18 : FVec Ideal S1x2816 .f32) (ix2 0 x) := by blk_ext [iblk, idx t]
    rw [e, V_b]
    pointwise
  have h6 : ∀ x : Fin 2816, (iblk m c 6 t : FVec Ideal S2816x1024 .bf16) (ix2 x (y 1)) = (m ((c : Thread nD τ).loc main_arg4) : FVec Ideal S2816x1024 .f32) (ix2 x (y 1)) := fun x => by
    refine Eq.trans ?_ (congrFun (V_w m c) (ix2 x (y 1)))
    blk_ext [iblk, idx t]
  have h7 : (iblk m c 7 t : FVec Ideal S256x1024 .f32) y = (m ((c : Thread nD τ).loc main_arg5) : FVec Ideal S16896x1024 .f32) (ix2 r (y 1)) := by
    blk_ext [iblk, V, idx t, hr]
  frame_out
  pointwise [k0_pay1]
  simp only [h0, h1, h2, h3, h4, h5, h6, h7]
  rfl

/-- The result array after the run is the reference's term. -/
theorem final (c : Dev nD) : (dats m 0 c).arrAt 8 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  exact point m c t y
end Cert.FfnDownIdeal.Value

end
-- ==== Proof.FinalNormValue.lean ====
/- The final norm: after its run the kernel's result array is the reference's term over the same arguments. -/
module

public import proofs.«01_k».proof.Proof.Gen.FinalNormIdeal.Frame
public import proofs.«01_k».proof.Proof.Gen.FinalNormRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FinalNormIdeal.Value

open Cert.FinalNormIdeal Cert.FinalNormIdeal.Gen

variable (m : (ℓ : Loc nD τ sig) → Buf (Elt Ideal) ℓ)

/-- The reference's result: the rows of `X`, normalised by the root of their mean square and scaled by `Gn`. -/
abbrev REF (X : FVec Ideal Cert.FinalNormRefIdeal.S16896x1024 .f32) (Gn : FVec Ideal Cert.FinalNormRefIdeal.S1024 .f32) :
    FVec Ideal Cert.FinalNormRefIdeal.S16896x1024 .f32 :=
  open Cert.FinalNormRefIdeal Cert.FinalNormRefIdeal.Gen in
  mulf (mulf X (broadcastInDim S16896x1024 ![0, 1] bcast_S16896x1_S16896x1024_0_1 (Host.rsqrt (addf (Host.divf (broadcastInDim S16896x1 ![0] bcast_S16896_S16896x1_0 (Host.reduceAdd (mulf X X) (constant S_ .f32 0x00000000#32) reducesTo_S16896x1024_S16896_d1 h_S_)) (broadcastInDim S16896x1 ![] bcast_S_S16896x1 (constant S_ .f32 0x44800000#32))) (broadcastInDim S16896x1 ![] bcast_S_S16896x1 (constant S_ .f32 0x358637BD#32)))))) (broadcastInDim S16896x1024 ![0, 1] bcast_S1x1024_S16896x1024_0_1 (broadcastInDim S1x1024 ![1] bcast_S1024_S1x1024_1 Gn))

/-- Which block each window shows at a grid point. -/
theorem idx : ∀ t : Fin cfg0.N, win0_0.index t = ![t.val, 0] ∧ win0_1.index t = ![0, 0] ∧ win0_2.index t = ![t.val, 0] :=
  (by decide +kernel : ∀ t : Fin grid0.N, _)

/-- One entry of a point's result is the reference's entry at the place the block puts it. -/
theorem point (c : Dev nD) (t : Fin cfg0.N) (y) :
    out0_2 (iblk m c 0 t) (iblk m c 1 t) y
      = REF (m ((c : Thread nD τ).loc main_arg0)) (m ((c : Thread nD τ).loc main_arg1)) (((cfg0.win 2).blk t).view.emb y) := by
  frame_out
  pointwise [k0_pay1, REF]
  blk_point [iblk, V, idx t]

/-- The result array after the run is the reference's term. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Cert.FinalNormIdeal.Value

end
-- ==== Proof.EvenInValue.lean ====
/- The input projection of the even layers: after its run the kernel's result array is the reference's term over the same arguments. -/
module

public import proofs.«01_k».proof.Proof.Gen.EvenInIdeal.Frame
public import proofs.«01_k».proof.Proof.Gen.EvenInRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.EvenInRefIdeal.Value

open Cert.EvenInRefIdeal Cert.EvenInRefIdeal.Gen

/-- The reference's rows: the rows of `X`, normalised by the root of their mean square and scaled by `Gn`. -/
abbrev NRM (X : FVec Ideal S16896x1024 .f32) (Gn : FVec Ideal S1024 .f32) :
    FVec Ideal S16896x1024 .f32 :=
  mulf (mulf X (broadcastInDim S16896x1024 ![0, 1] bcast_S16896x1_S16896x1024_0_1 (Host.rsqrt (addf (Host.divf (broadcastInDim S16896x1 ![0] bcast_S16896_S16896x1_0 (Host.reduceAdd (mulf X X) (constant S_ .f32 0x00000000#32) reducesTo_S16896x1024_S16896_d1 h_S_)) (broadcastInDim S16896x1 ![] bcast_S_S16896x1 (constant S_ .f32 0x44800000#32))) (broadcastInDim S16896x1 ![] bcast_S_S16896x1 (constant S_ .f32 0x358637BD#32)))))) (broadcastInDim S16896x1024 ![0, 1] bcast_S1x1024_S16896x1024_0_1 (broadcastInDim S1x1024 ![1] bcast_S1024_S1x1024_1 Gn))

/-- The columns of `Z` in the kernel's order, and columns of zeros. -/
abbrev COLS (Z : FVec Ideal S16896x2720 .f32) : FVec Ideal S16896x2816 .f32 :=
  concatenate S16896x2816 1 [⟨S16896x640, ((extractStridedSlice S16896x640 ![0, 0] Z slices_S16896x2720_S16896x640_0_0))⟩, ⟨S16896x2048, ((extractStridedSlice S16896x2048 ![0, 672] Z slices_S16896x2720_S16896x2048_0_672))⟩, ⟨S16896x32, ((extractStridedSlice S16896x32 ![0, 640] Z slices_S16896x2720_S16896x32_0_640))⟩, ⟨S16896x96, ((broadcastInDim S16896x96 ![] bcast_S_S16896x96 (constant S_ .f32 0x00000000#32)))⟩] concatenates_S16896x640_S16896x2048_S16896x32_S16896x96_S16896x2816_d1

/-- The normalised rows times `Wt`. -/
abbrev PRD (X : FVec Ideal S16896x1024 .f32) (Gn : FVec Ideal S1024 .f32) (Wt : FVec Ideal S1024x2720 .f32) : FVec Ideal S16896x2720 .f32 :=
  Host.dotGeneral dot_S16896x1024_S1024x2720_S16896x2720_1_0_0_1_n_n none (NRM X Gn) Wt

/-- The reference's first result: the product, its columns in the kernel's order. -/
abbrev REF (X : FVec Ideal S16896x1024 .f32) (Gn : FVec Ideal S1024 .f32) (Wt : FVec Ideal S1024x2720 .f32) : FVec Ideal S16896x2816 .f32 :=
  COLS (PRD X Gn Wt)

/-- The prompt's key latents in `Z`. -/
abbrev XP (Z : FVec Ideal S16896x2720 .f32) : FVec Ideal S8x2048x256 .f32 :=
  extractStridedSlice S8x2048x256 ![0, 0, 384] (shapeCast _ (extractStridedSlice S16384x2720 ![0, 0] Z slices_S16896x2720_S16384x2720_0_0) shapeCasts_S16384x2720_S8x2048x2720) slices_S8x2048x2720_S8x2048x256_0_0_384

/-- The samples' key latents in `Z`. -/
abbrev XS (Z : FVec Ideal S16896x2720 .f32) : FVec Ideal S128x4x256 .f32 :=
  extractStridedSlice S128x4x256 ![0, 0, 384] (shapeCast _ (extractStridedSlice S512x2720 ![16384, 0] Z slices_S16896x2720_S512x2720_16384_0) shapeCasts_S512x2720_S128x4x2720) slices_S128x4x2720_S128x4x256_0_0_384

/-- The prompt's rotary keys in `Z`, before their turn. -/
abbrev YP (Z : FVec Ideal S16896x2720 .f32) : FVec Ideal S8x2048x32 .f32 :=
  extractStridedSlice S8x2048x32 ![0, 0, 640] (shapeCast _ (extractStridedSlice S16384x2720 ![0, 0] Z slices_S16896x2720_S16384x2720_0_0) shapeCasts_S16384x2720_S8x2048x2720) slices_S8x2048x2720_S8x2048x32_0_0_640

/-- The samples' rotary keys in `Z`, before their turn. -/
abbrev YS (Z : FVec Ideal S16896x2720 .f32) : FVec Ideal S128x4x32 .f32 :=
  extractStridedSlice S128x4x32 ![0, 0, 640] (shapeCast _ (extractStridedSlice S512x2720 ![16384, 0] Z slices_S16896x2720_S512x2720_16384_0) shapeCasts_S512x2720_S128x4x2720) slices_S128x4x2720_S128x4x32_0_0_640

/-- The prompt's rows `x`, normalised and scaled by `Kn`. -/
abbrev NP (x : FVec Ideal S8x2048x256 .f32) (Kn : FVec Ideal S256 .f32) : FVec Ideal S8x2048x256 .f32 :=
  mulf (mulf x (broadcastInDim S8x2048x256 ![0, 1, 2] bcast_S8x2048x1_S8x2048x256_0_1_2 (Host.rsqrt (addf (Host.divf (broadcastInDim S8x2048x1 ![0, 1] bcast_S8x2048_S8x2048x1_0_1 (Host.reduceAdd (mulf x x) (constant S_ .f32 0x00000000#32) reducesTo_S8x2048x256_S8x2048_d2 h_S_)) (broadcastInDim S8x2048x1 ![] bcast_S_S8x2048x1 (constant S_ .f32 0x43800000#32))) (broadcastInDim S8x2048x1 ![] bcast_S_S8x2048x1 (constant S_ .f32 0x358637BD#32)))))) (broadcastInDim S8x2048x256 ![0, 1, 2] bcast_S1x1x256_S8x2048x256_0_1_2 (broadcastInDim S1x1x256 ![2] bcast_S256_S1x1x256_2 Kn))

/-- The samples' rows `x`, normalised and scaled by `Kn`. -/
abbrev NS (x : FVec Ideal S128x4x256 .f32) (Kn : FVec Ideal S256 .f32) : FVec Ideal S128x4x256 .f32 :=
  mulf (mulf x (broadcastInDim S128x4x256 ![0, 1, 2] bcast_S128x4x1_S128x4x256_0_1_2 (Host.rsqrt (addf (Host.divf (broadcastInDim S128x4x1 ![0, 1] bcast_S128x4_S128x4x1_0_1 (Host.reduceAdd (mulf x x) (constant S_ .f32 0x00000000#32) reducesTo_S128x4x256_S128x4_d2 h_S_)) (broadcastInDim S128x4x1 ![] bcast_S_S128x4x1 (constant S_ .f32 0x43800000#32))) (broadcastInDim S128x4x1 ![] bcast_S_S128x4x1 (constant S_ .f32 0x358637BD#32)))))) (broadcastInDim S128x4x256 ![0, 1, 2] bcast_S1x1x256_S128x4x256_0_1_2 (broadcastInDim S1x1x256 ![2] bcast_S256_S1x1x256_2 Kn))

/-- The cosines at the prompt's positions. -/
abbrev CTP  : FVec Ideal S8x2048x16 .f32 :=
  broadcastInDim S8x2048x16 ![0, 1, 2] bcast_S1x2048x16_S8x2048x16_0_1_2 (broadcastInDim S1x2048x16 ![1, 2] bcast_S2048x16_S1x2048x16_1_2 (Host.cos (mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))))))

/-- The sines at the prompt's positions. -/
abbrev STP  : FVec Ideal S8x2048x16 .f32 :=
  broadcastInDim S8x2048x16 ![0, 1, 2] bcast_S1x2048x16_S8x2048x16_0_1_2 (broadcastInDim S1x2048x16 ![1, 2] bcast_S2048x16_S1x2048x16_1_2 (Host.sin (mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))))))

/-- The cosines at the samples' positions. -/
abbrev CTS  : FVec Ideal S128x4x16 .f32 :=
  broadcastInDim S128x4x16 ![0, 1, 2] bcast_S1x4x16_S128x4x16_0_1_2 (broadcastInDim S1x4x16 ![1, 2] bcast_S4x16_S1x4x16_1_2 (Host.cos (mulf (broadcastInDim S4x16 ![0, 1] bcast_S4x1_S4x16_0_1 (broadcastInDim S4x1 ![0] bcast_S4_S4x1_0 (sitofp .f32 (addi (broadcastInDim S4 ![] bcast_S_S4 (constantI S_ 32 8192#32)) (iotaInDim S4 32 0))))) (broadcastInDim S4x16 ![0, 1] bcast_S1x16_S4x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))))))

/-- The sines at the samples' positions. -/
abbrev STS  : FVec Ideal S128x4x16 .f32 :=
  broadcastInDim S128x4x16 ![0, 1, 2] bcast_S1x4x16_S128x4x16_0_1_2 (broadcastInDim S1x4x16 ![1, 2] bcast_S4x16_S1x4x16_1_2 (Host.sin (mulf (broadcastInDim S4x16 ![0, 1] bcast_S4x1_S4x16_0_1 (broadcastInDim S4x1 ![0] bcast_S4_S4x1_0 (sitofp .f32 (addi (broadcastInDim S4 ![] bcast_S_S4 (constantI S_ 32 8192#32)) (iotaInDim S4 32 0))))) (broadcastInDim S4x16 ![0, 1] bcast_S1x16_S4x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))))))

/-- The prompt's rows `x`, their halves turned by cosines `C` and sines `S`. -/
abbrev RP (x : FVec Ideal S8x2048x32 .f32) (C S : FVec Ideal S8x2048x16 .f32) : FVec Ideal S8x2048x32 .f32 :=
    concatenate S8x2048x32 2 [⟨S8x2048x16, (subf (mulf (extractStridedSlice S8x2048x16 ![0, 0, 0] x slices_S8x2048x32_S8x2048x16_0_0_0) C) (mulf (extractStridedSlice S8x2048x16 ![0, 0, 16] x slices_S8x2048x32_S8x2048x16_0_0_16) S))⟩, ⟨S8x2048x16, (addf (mulf (extractStridedSlice S8x2048x16 ![0, 0, 16] x slices_S8x2048x32_S8x2048x16_0_0_16) C) (mulf (extractStridedSlice S8x2048x16 ![0, 0, 0] x slices_S8x2048x32_S8x2048x16_0_0_0) S))⟩] concatenates_S8x2048x16_S8x2048x16_S8x2048x32_d2

/-- The samples' rows `x`, their halves turned by cosines `C` and sines `S`. -/
abbrev RS (x : FVec Ideal S128x4x32 .f32) (C S : FVec Ideal S128x4x16 .f32) : FVec Ideal S128x4x32 .f32 :=
    concatenate S128x4x32 2 [⟨S128x4x16, (subf (mulf (extractStridedSlice S128x4x16 ![0, 0, 0] x slices_S128x4x32_S128x4x16_0_0_0) C) (mulf (extractStridedSlice S128x4x16 ![0, 0, 16] x slices_S128x4x32_S128x4x16_0_0_16) S))⟩, ⟨S128x4x16, (addf (mulf (extractStridedSlice S128x4x16 ![0, 0, 16] x slices_S128x4x32_S128x4x16_0_0_16) C) (mulf (extractStridedSlice S128x4x16 ![0, 0, 0] x slices_S128x4x32_S128x4x16_0_0_0) S))⟩] concatenates_S128x4x16_S128x4x16_S128x4x32_d2

end Cert.EvenInRefIdeal.Value

namespace Cert.EvenInIdeal.Value

open Cert.EvenInIdeal Cert.EvenInIdeal.Gen

open Cert.EvenInRefIdeal.Value (NRM COLS PRD REF XP XS YP YS NP NS CTP STP CTS STS RP RS)

variable (m : (ℓ : Loc nD τ sig) → Buf (Elt Ideal) ℓ)

/-- The kernel's weight: the columns of `Wt` in the kernel's order, and columns of zeros. -/
abbrev WP (Wt : FVec Ideal S1024x2720 .f32) : FVec Ideal S1024x2816 .f32 :=
  concatenate S1024x2816 1 [⟨S1024x640, extractStridedSlice S1024x640 ![0, 0] Wt slices_S1024x2720_S1024x640_0_0⟩,
    ⟨S1024x2048, extractStridedSlice S1024x2048 ![0, 672] Wt slices_S1024x2720_S1024x2048_0_672⟩,
    ⟨S1024x32, extractStridedSlice S1024x32 ![0, 640] Wt slices_S1024x2720_S1024x32_0_640⟩,
    ⟨S1024x96, broadcastInDim S1024x96 ![] bcast_S_S1024x96 (constant S_ .f32 0x00000000#32)⟩] concatenates_S1024x640_S1024x2048_S1024x32_S1024x96_S1024x2816_d1

/-- The third operand at the call. -/
theorem V_w (c : Dev nD) : V m c main_v5 = truncf .bf16 (WP (m ((c : Thread nD τ).loc main_arg2))) bitsLt_bf16_f32 := by
  unfold V V0
  simp only [hostOps0, List.flatten_cons, List.flatten_nil, List.append_nil, List.cons_append, List.nil_append]
  after_results
  rfl

/-- The second operand at the call. -/
theorem V_g (c : Dev nD) : V m c main_v33 = shapeCast S1x1024 (m ((c : Thread nD τ).loc main_arg1)) shapeCasts_S1024_S1x1024 := by
  unfold V V0
  simp only [hostOps0, List.flatten_cons, List.flatten_nil, List.append_nil, List.cons_append, List.nil_append]
  after_results
  rfl

set_option maxHeartbeats 4000000 in
/-- An entry of the reference's result is the normalised row times the kernel's column. -/
theorem REF_at (X Gn Wt) (r : Fin 16896) (j : Fin 2816) :
    REF X Gn Wt (ix2 r j) = ∑ k : Fin 1024, NRM X Gn (ix2 r k) * WP Wt (ix2 k j) := by
  unfold REF PRD
  generalize NRM X Gn = P
  pointwise [COLS, WP]
  split_ifs
  all_goals first
    | rfl
    | simp

/-- Which block each window shows at a grid point. -/
theorem idx : ∀ t : Fin cfg0.N, win0_0.index t = ![t.val / 2, 0] ∧ win0_1.index t = ![0, 0]
    ∧ win0_2.index t = ![0, t.val % 2] ∧ win0_3.index t = ![t.val / 2, t.val % 2] :=
  (by decide +kernel : ∀ t : Fin grid0.N, _)

/-- Inside a run of 2 points the row block stays the same. -/
theorem iblk0_pred (c : Dev nD) (t t' : Fin cfg0.N) (h : t.val = t'.val + 1) (hk : ¬ t.val % 2 = 0) :
    iblk m c 0 t' = iblk m c 0 t := by
  have e : t'.val / 2 = t.val / 2 := by omega
  have i0 := (idx t).1
  have i0' := (idx t').1
  rw [e, ← i0] at i0'
  funext x
  blk_simp [iblk]
  congr 1
  blk_ext [i0']

/-- The scale's block is the whole array at every point. -/
theorem iblk1_const (c : Dev nD) (t t' : Fin cfg0.N) : iblk m c 1 t' = iblk m c 1 t := by
  have i0 := (idx t).2.1
  have i0' := (idx t').2.1
  rw [← i0] at i0'
  funext x
  blk_simp [iblk]
  congr 1
  blk_ext [i0']

/-- The kept scratch holds the normalised rows of the point's row block. -/
theorem scratch (c : Dev nD) (n : ℕ) (hn : n < cfg0.N) :
    (outsAt0 m c n hn).2 = k0_pay1 (iblk m c 0 ⟨n, hn⟩) (iblk m c 1 ⟨n, hn⟩) := by
  induction n with
  | zero => rw [outsAt0_A m c ⟨0, hn⟩ rfl]; frame_out
  | succ n ih =>
    by_cases h : (n + 1) % 2 = 0
    · rw [outsAt0_A m c ⟨n + 1, hn⟩ h]; frame_out
    · rw [outsAt0_B m c ⟨n + 1, hn⟩ h]; frame_out
      refine (ih (Nat.lt_of_succ_lt hn)).trans ?_
      rw [iblk0_pred m c ⟨n + 1, hn⟩ ⟨n, Nat.lt_of_succ_lt hn⟩ rfl h, iblk1_const m c ⟨n + 1, hn⟩ ⟨n, Nat.lt_of_succ_lt hn⟩]

/-- What a point leaves in the result's block. -/
theorem outs (c : Dev nD) (t : Fin cfg0.N) :
    (outsAt0 m c t.val t.isLt).1 = k0_pay2 (k0_pay1 (iblk m c 0 t) (iblk m c 1 t)) (iblk m c 2 t) := by
  by_cases h : t.val % 2 = 0
  · rw [outsAt0_A m c t h]; frame_out
  · rw [outsAt0_B m c t h, scratch m c (t.val - 1), iblk0_pred m c t ⟨t.val - 1, _⟩ (by simp only []; omega) h,
      iblk1_const m c t ⟨t.val - 1, _⟩]
    frame_out
    exact congrArg (fun x => k0_pay2 x _) (Memref.IsWhole.read_unread _ _)

/-- One entry of a point's product is the reference's entry at the place the block puts it. -/
theorem point (c : Dev nD) (t : Fin cfg0.N) (y) :
    k0_pay2 (k0_pay1 (iblk m c 0 t) (iblk m c 1 t)) (iblk m c 2 t) y
      = REF (m ((c : Thread nD τ).loc main_arg0)) (m ((c : Thread nD τ).loc main_arg1)) (m ((c : Thread nD τ).loc main_arg2)) (((cfg0.win 3).blk t).view.emb y) := by
  have ht : t.val < 66 := lt_of_lt_of_eq t.isLt N_0
  have hy0 : (y 0 : ℕ) < 512 := (y 0).isLt
  have hy1 : (y 1 : ℕ) < 1408 := (y 1).isLt
  obtain ⟨r, hr⟩ : ∃ r : Fin 16896, r.val = t.val / 2 * 512 + (y 0 : ℕ) := ⟨⟨_, by omega⟩, rfl⟩
  obtain ⟨j, hj⟩ : ∃ j : Fin 2816, j.val = t.val % 2 * 1408 + (y 1 : ℕ) := ⟨⟨_, by omega⟩, rfl⟩
  have hv : ((cfg0.win 3).blk t).view.emb y = (ix2 r j : S16896x2816.Idx) := by
    blk_ext [idx t, hr, hj]
  rw [hv, REF_at]
  have h1 : ∀ x : Fin 1024, (iblk m c 1 t : FVec Ideal S1x1024 .f32) (ix2 0 x) = (m ((c : Thread nD τ).loc main_arg1) : FVec Ideal S1024 .f32) (ix1 x) := fun x => by
    refine Eq.trans ?_ ((congrFun (V_g m c) (ix2 0 x)).trans (by pointwise))
    blk_ext [iblk, idx t]
  have h0 : ∀ x : Fin 1024, k0_pay1 (iblk m c 0 t) (iblk m c 1 t) (ix2 (y 0) x)
      = NRM (m ((c : Thread nD τ).loc main_arg0)) (m ((c : Thread nD τ).loc main_arg1)) (ix2 r x) := fun x => by
    pointwise [k0_pay1, NRM]
    simp only [h1]
    blk_point [iblk, V, V0, idx t, hr]
  have h2 : ∀ x : Fin 1024, (iblk m c 2 t : FVec Ideal S1024x1408 .bf16) (ix2 x (y 1)) = WP (m ((c : Thread nD τ).loc main_arg2)) (ix2 x j) := fun x => by
    refine Eq.trans ?_ (congrFun (V_w m c) (ix2 x j))
    blk_ext [iblk, idx t, hj]
  generalize WP (m ((c : Thread nD τ).loc main_arg2)) = W at h2 ⊢
  generalize NRM (m ((c : Thread nD τ).loc main_arg0)) (m ((c : Thread nD τ).loc main_arg1)) = P at h0 ⊢
  generalize k0_pay1 (iblk m c 0 t) (iblk m c 1 t) = Q at h0 ⊢
  generalize iblk m c 2 t = B at h2 ⊢
  pointwise [k0_pay2]
  simp only [h0, h2]

/-- The result array after the run is the reference's term. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, outs]
  exact point m c t y

end Cert.EvenInIdeal.Value

end
-- ==== Proof.EvenInTail.lean ====
/- The host operations after the even layers' input projection: each of the program's results is the reference's. -/
module

public import proofs.«01_k».proof.Proof.EvenInValue

@[expose] public section

set_option maxRecDepth 16384

noncomputable section

open Idealize.ShloMosaic Idealize.ShloMosaic.TcCoe Idealize.SL.Sem
open Idealize.ShloMosaic.Pipeline (Dat)

namespace Cert.EvenInRefIdeal.Value

open Cert.EvenInRefIdeal Cert.EvenInRefIdeal.Gen

/-- The reference's results after its run, by name. -/
theorem run' (m' : (ℓ : Loc nD τ sig) → Buf (Elt Ideal) ℓ) (ρ' : Dev nD → PrngReg) : θ_run defs (onTc (τ := τ) (main (F := Ideal))) ⟨m', fun _ => 0, ρ'⟩ fun r => ∀ c : Dev nD,
      r.2.mem ((c.tc : Thread nD τ).loc main_v18) = REF (m' ((c : Thread nD τ).loc main_arg0)) (m' ((c : Thread nD τ).loc main_arg1)) (m' ((c : Thread nD τ).loc main_arg2))
      ∧ r.2.mem ((c.tc : Thread nD τ).loc main_v36) = NP (XP (PRD (m' ((c : Thread nD τ).loc main_arg0)) (m' ((c : Thread nD τ).loc main_arg1)) (m' ((c : Thread nD τ).loc main_arg2)))) (m' ((c : Thread nD τ).loc main_arg3))
      ∧ r.2.mem ((c.tc : Thread nD τ).loc main_v50) = NS (XS (PRD (m' ((c : Thread nD τ).loc main_arg0)) (m' ((c : Thread nD τ).loc main_arg1)) (m' ((c : Thread nD τ).loc main_arg2)))) (m' ((c : Thread nD τ).loc main_arg3))
      ∧ r.2.mem ((c.tc : Thread nD τ).loc main_v83) = RP (YP (PRD (m' ((c : Thread nD τ).loc main_arg0)) (m' ((c : Thread nD τ).loc main_arg1)) (m' ((c : Thread nD τ).loc main_arg2)))) CTP STP
      ∧ r.2.mem ((c.tc : Thread nD τ).loc main_v118) = RS (YS (PRD (m' ((c : Thread nD τ).loc main_arg0)) (m' ((c : Thread nD τ).loc main_arg1)) (m' ((c : Thread nD τ).loc main_arg2)))) CTS STS
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3) :=
  run m' ρ'

end Cert.EvenInRefIdeal.Value

namespace Cert.EvenInIdeal.Value

open Cert.EvenInIdeal Cert.EvenInIdeal.Gen
open Cert.EvenInRefIdeal.Value (NRM COLS PRD REF XP XS YP YS NP NS CTP STP CTS STS RP RS)

variable (m : (ℓ : Loc nD τ sig) → Buf (Elt Ideal) ℓ)

/-- The kernel's key latents. -/
abbrev ZC (z : FVec Ideal S16896x2816 .f32) : FVec Ideal S16896x256 .f32 :=
  extractStridedSlice S16896x256 ![0, 384] z slices_S16896x2816_S16896x256_0_384

/-- The kernel's rotary keys, before their turn. -/
abbrev ZR (z : FVec Ideal S16896x2816 .f32) : FVec Ideal S16896x32 .f32 :=
  extractStridedSlice S16896x32 ![0, 2688] z slices_S16896x2816_S16896x32_0_2688

/-- The rows `u`, normalised and scaled by `Kn`. -/
abbrev NK (u : FVec Ideal S16896x256 .f32) (Kn : FVec Ideal S256 .f32) : FVec Ideal S16896x256 .f32 :=
  mulf (mulf u (broadcastInDim S16896x256 ![0, 1] bcast_S16896x1_S16896x256_0_1 (Host.rsqrt (addf (Host.divf (broadcastInDim S16896x1 ![0] bcast_S16896_S16896x1_0 (Host.reduceAdd (mulf u u) (constant S_ .f32 0x00000000#32) reducesTo_S16896x256_S16896_d1 h_S_)) (broadcastInDim S16896x1 ![] bcast_S_S16896x1 (constant S_ .f32 0x43800000#32))) (broadcastInDim S16896x1 ![] bcast_S_S16896x1 (constant S_ .f32 0x358637BD#32))))))
    (broadcastInDim S16896x256 ![0, 1] bcast_S1x256_S16896x256_0_1 (broadcastInDim S1x256 ![1] bcast_S256_S1x256_1 Kn))

/-- The rows `u` under a new axis. -/
abbrev ROW (u : FVec Ideal S16896x32 .f32) : FVec Ideal S16896x1x32 .f32 :=
  broadcastInDim S16896x1x32 ![0, 2] bcast_S16896x32_S16896x1x32_0_2 u

/-- The first half of each row. -/
abbrev LO (u : FVec Ideal S16896x32 .f32) : FVec Ideal S16896x1x16 .f32 :=
  extractStridedSlice S16896x1x16 ![0, 0, 0] (ROW u) slices_S16896x1x32_S16896x1x16_0_0_0

/-- The second half of each row. -/
abbrev HI (u : FVec Ideal S16896x32 .f32) : FVec Ideal S16896x1x16 .f32 :=
  extractStridedSlice S16896x1x16 ![0, 0, 16] (ROW u) slices_S16896x1x32_S16896x1x16_0_0_16

/-- The rows `u`, their halves turned by cosines `C` and sines `S`. -/
abbrev KR (u : FVec Ideal S16896x32 .f32) (C S : FVec Ideal S16896x1x16 .f32) : FVec Ideal S16896x32 .f32 :=
  shapeCast S16896x32 (concatenate S16896x1x32 2 [⟨S16896x1x16, subf (mulf (LO u) C) (mulf (HI u) S)⟩, ⟨S16896x1x16, addf (mulf (HI u) C) (mulf (LO u) S)⟩] concatenates_S16896x1x16_S16896x1x16_S16896x1x32_d2) shapeCasts_S16896x1x32_S16896x32

/-- Values for the prompts' rows, then for the sampled rows. -/
abbrev CAT (P : IVec S16384 32) (Q : IVec S512 32) : IVec S16896 32 :=
  concatenate S16896 0 [⟨S16384, P⟩, ⟨S512, Q⟩] concatenates_S16384_S512_S16896_d0

theorem CAT_p (P Q) (r : Fin 16384) : CAT P Q (ix1 ⟨r.val, by omega⟩) = P (ix1 r) := by
  pointwise [CAT]

theorem CAT_s (P Q) (r : Fin 512) : CAT P Q (ix1 ⟨16384 + r.val, by omega⟩) = Q (ix1 r) := by
  pointwise [CAT]

/-- Values for each of a prompt's positions, for all prompts' rows. -/
abbrev REP (A : IVec S2048 32) : IVec S16384 32 :=
  shapeCast S16384 (broadcastInDim S8x2048 ![0, 1] bcast_S1x2048_S8x2048_0_1 (shapeCast S1x2048 A shapeCasts_S2048_S1x2048)) shapeCasts_S8x2048_S16384

/-- Values for each of a sample's positions, for all samples' rows. -/
abbrev RES (G : IVec S4 32) : IVec S512 32 :=
  shapeCast S512 (broadcastInDim S128x4 ![0, 1] bcast_S1x4_S128x4_0_1 (shapeCast S1x4 G shapeCasts_S4_S1x4)) shapeCasts_S128x4_S512

theorem REP_at (A) (b : Fin 8) (t : Fin 2048) : REP A (ix1 ⟨b.val * 2048 + t.val, by omega⟩) = A (ix1 t) := by
  pointwise [REP]

theorem RES_at (G) (b : Fin 128) (t : Fin 4) : RES G (ix1 ⟨b.val * 4 + t.val, by omega⟩) = G (ix1 t) := by
  pointwise [RES]

/-- Positions `A` for each prompt sequence, then positions `G` for each sampled one. -/
abbrev POSI (A : IVec S2048 32) (G : IVec S4 32) : IVec S16896 32 := CAT (REP A) (RES G)

/-- The rows' positions as numbers. -/
abbrev POS : FVec Ideal S16896 .f32 :=
  sitofp .f32 (POSI (iotaInDim S2048 32 0) (addi (broadcastInDim S4 ![] bcast_S_S4 (constantI S_ 32 8192#32)) (iotaInDim S4 32 0)))

/-- The turns' frequencies. -/
abbrev FRQ : FVec Ideal S16 .f32 :=
  Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))

/-- Positions `P` times frequencies `R`. -/
abbrev ANG (P : FVec Ideal S16896 .f32) (R : FVec Ideal S16 .f32) : FVec Ideal S16896x16 .f32 :=
  mulf (broadcastInDim S16896x16 ![0, 1] bcast_S16896x1_S16896x16_0_1 (broadcastInDim S16896x1 ![0] bcast_S16896_S16896x1_0 P))
    (broadcastInDim S16896x16 ![0, 1] bcast_S1x16_S16896x16_0_1 (broadcastInDim S1x16 ![1] bcast_S16_S1x16_1 R))

/-- The kernel's cosines. -/
abbrev CO (P : FVec Ideal S16896 .f32) (R : FVec Ideal S16 .f32) : FVec Ideal S16896x1x16 .f32 :=
  broadcastInDim S16896x1x16 ![0, 2] bcast_S16896x16_S16896x1x16_0_2 (Host.cos (ANG P R))

/-- The kernel's sines. -/
abbrev SI (P : FVec Ideal S16896 .f32) (R : FVec Ideal S16 .f32) : FVec Ideal S16896x1x16 .f32 :=
  broadcastInDim S16896x1x16 ![0, 2] bcast_S16896x16_S16896x1x16_0_2 (Host.sin (ANG P R))

/-- The prompt's rows of `u`. -/
abbrev PR (u : FVec Ideal S16896x256 .f32) : FVec Ideal S8x2048x256 .f32 :=
  shapeCast _ (extractStridedSlice S16384x256 ![0, 0] u slices_S16896x256_S16384x256_0_0) shapeCasts_S16384x256_S8x2048x256

/-- The sampled rows of `u`. -/
abbrev SA (u : FVec Ideal S16896x256 .f32) : FVec Ideal S128x4x256 .f32 :=
  shapeCast _ (extractStridedSlice S512x256 ![16384, 0] u slices_S16896x256_S512x256_16384_0) shapeCasts_S512x256_S128x4x256

/-- The prompt's rows of rotary keys `u`. -/
abbrev PK (u : FVec Ideal S16896x32 .f32) : FVec Ideal S8x2048x32 .f32 :=
  shapeCast _ (extractStridedSlice S16384x32 ![0, 0] u slices_S16896x32_S16384x32_0_0) shapeCasts_S16384x32_S8x2048x32

/-- The sampled rows of rotary keys `u`. -/
abbrev SK (u : FVec Ideal S16896x32 .f32) : FVec Ideal S128x4x32 .f32 :=
  shapeCast _ (extractStridedSlice S512x32 ![16384, 0] u slices_S16896x32_S512x32_16384_0) shapeCasts_S512x32_S128x4x32

/-- Row `t` of prompt sequence `b`. -/
def rp (b : Fin 8) (t : Fin 2048) : Fin 16896 := ⟨b.val * 2048 + t.val, by omega⟩

/-- Row `t` of sampled sequence `b`. -/
def rs (b : Fin 128) (t : Fin 4) : Fin 16896 := ⟨16384 + (b.val * 4 + t.val), by omega⟩

theorem PR_at (u) (b : Fin 8) (t : Fin 2048) (j : Fin 256) : PR u (ix3 b t j) = u (ix2 (rp b t) j) := by
  pointwise [PR, rp]

theorem SA_at (u) (b : Fin 128) (t : Fin 4) (j : Fin 256) : SA u (ix3 b t j) = u (ix2 (rs b t) j) := by
  pointwise [SA, rs]

theorem PK_at (u) (b : Fin 8) (t : Fin 2048) (j : Fin 32) : PK u (ix3 b t j) = u (ix2 (rp b t) j) := by
  pointwise [PK, rp]

theorem SK_at (u) (b : Fin 128) (t : Fin 4) (j : Fin 32) : SK u (ix3 b t j) = u (ix2 (rs b t) j) := by
  pointwise [SK, rs]

theorem ZC_at (Z) (r : Fin 16896) (j : Fin 256) : ZC (COLS Z) (ix2 r j) = Z (ix2 r ⟨384 + j.val, by omega⟩) := by
  pointwise [ZC, COLS]
  try (split_ifs <;> first | rfl | (exfalso; omega))

theorem ZR_at (Z) (r : Fin 16896) (j : Fin 32) : ZR (COLS Z) (ix2 r j) = Z (ix2 r ⟨640 + j.val, by omega⟩) := by
  pointwise [ZR, COLS]
  rw [dif_neg (by omega), dif_neg (by omega), dif_pos (by omega)]
  refine congrArg Z (congrArg (ix2 r) (Fin.ext ?_))
  dsimp only
  omega

theorem XP_at (Z) (b : Fin 8) (t : Fin 2048) (j : Fin 256) : XP Z (ix3 b t j) = ZC (COLS Z) (ix2 (rp b t) j) := by
  rw [ZC_at]
  pointwise [XP, rp]

theorem XS_at (Z) (b : Fin 128) (t : Fin 4) (j : Fin 256) : XS Z (ix3 b t j) = ZC (COLS Z) (ix2 (rs b t) j) := by
  rw [ZC_at]
  pointwise [XS, rs]

theorem YP_at (Z) (b : Fin 8) (t : Fin 2048) (j : Fin 32) : YP Z (ix3 b t j) = ZR (COLS Z) (ix2 (rp b t) j) := by
  rw [ZR_at]
  pointwise [YP, rp]

theorem YS_at (Z) (b : Fin 128) (t : Fin 4) (j : Fin 32) : YS Z (ix3 b t j) = ZR (COLS Z) (ix2 (rs b t) j) := by
  rw [ZR_at]
  pointwise [YS, rs]

theorem NP_at (Z Kn) (b : Fin 8) (t : Fin 2048) (j : Fin 256) : NK (ZC (COLS Z)) Kn (ix2 (rp b t) j) = NP (XP Z) Kn (ix3 b t j) := by
  have h := XP_at Z b t
  generalize ZC (COLS Z) = u at h ⊢
  generalize XP Z = x at h ⊢
  pointwise [NK, NP]
  simp only [h]

theorem eq_NP (Z Kn) : PR (NK (ZC (COLS Z)) Kn) = NP (XP Z) Kn := by
  funext i
  rw [eq_ix3 i]
  exact (PR_at _ _ _ _).trans (NP_at _ _ _ _ _)

theorem NS_at (Z Kn) (b : Fin 128) (t : Fin 4) (j : Fin 256) : NK (ZC (COLS Z)) Kn (ix2 (rs b t) j) = NS (XS Z) Kn (ix3 b t j) := by
  have h := XS_at Z b t
  generalize ZC (COLS Z) = u at h ⊢
  generalize XS Z = x at h ⊢
  pointwise [NK, NS]
  simp only [h]

theorem eq_NS (Z Kn) : SA (NK (ZC (COLS Z)) Kn) = NS (XS Z) Kn := by
  funext i
  rw [eq_ix3 i]
  exact (SA_at _ _ _ _).trans (NS_at _ _ _ _ _)

theorem POSI_p (A G) (b : Fin 8) (t : Fin 2048) : POSI A G (ix1 (rp b t)) = A (ix1 t) :=
  (CAT_p (REP A) (RES G) ⟨b.val * 2048 + t.val, by omega⟩).trans (REP_at A b t)

theorem POSI_s (A G) (b : Fin 128) (t : Fin 4) : POSI A G (ix1 (rs b t)) = G (ix1 t) :=
  (CAT_s (REP A) (RES G) ⟨b.val * 4 + t.val, by omega⟩).trans (RES_at G b t)

theorem POS_p (b : Fin 8) (t : Fin 2048) : POS (ix1 (rp b t)) = (sitofp .f32 (iotaInDim S2048 32 0) : FVec Ideal S2048 .f32) (ix1 t) :=
  congrArg (FloatOps.sitofp .f32) (POSI_p _ _ b t)

theorem POS_s (b : Fin 128) (t : Fin 4) : POS (ix1 (rs b t)) = (sitofp .f32 (addi (broadcastInDim S4 ![] bcast_S_S4 (constantI S_ 32 8192#32)) (iotaInDim S4 32 0)) : FVec Ideal S4 .f32) (ix1 t) :=
  congrArg (FloatOps.sitofp .f32) (POSI_s _ _ b t)

theorem CO_p (b : Fin 8) (t : Fin 2048) (f : Fin 16) : CO POS FRQ (ix3 (rp b t) 0 f) = CTP (ix3 b t f) := by
  have h := POS_p b t
  generalize POS = P at h ⊢
  pointwise [CO, ANG, FRQ, CTP] at h ⊢
  rw [h]

theorem SI_p (b : Fin 8) (t : Fin 2048) (f : Fin 16) : SI POS FRQ (ix3 (rp b t) 0 f) = STP (ix3 b t f) := by
  have h := POS_p b t
  generalize POS = P at h ⊢
  pointwise [SI, ANG, FRQ, STP] at h ⊢
  rw [h]

theorem CO_s (b : Fin 128) (t : Fin 4) (f : Fin 16) : CO POS FRQ (ix3 (rs b t) 0 f) = CTS (ix3 b t f) := by
  have h := POS_s b t
  generalize POS = P at h ⊢
  pointwise [CO, ANG, FRQ, CTS] at h ⊢
  rw [h]

theorem SI_s (b : Fin 128) (t : Fin 4) (f : Fin 16) : SI POS FRQ (ix3 (rs b t) 0 f) = STS (ix3 b t f) := by
  have h := POS_s b t
  generalize POS = P at h ⊢
  pointwise [SI, ANG, FRQ, STS] at h ⊢
  rw [h]

theorem RP_at (Z) (b : Fin 8) (t : Fin 2048) (j : Fin 32) : KR (ZR (COLS Z)) (CO POS FRQ) (SI POS FRQ) (ix2 (rp b t) j) = RP (YP Z) CTP STP (ix3 b t j) := by
  have h := YP_at Z b t
  have hc := CO_p b t
  have hs := SI_p b t
  generalize ZR (COLS Z) = u at h ⊢
  generalize YP Z = x at h ⊢
  generalize CO POS FRQ = C at hc ⊢
  generalize SI POS FRQ = S at hs ⊢
  generalize CTP = C' at hc ⊢
  generalize STP = S' at hs ⊢
  pointwise [KR, RP]
  split_ifs <;> simp only [h, hc, hs]

theorem eq_RP (Z) : PK (KR (ZR (COLS Z)) (CO POS FRQ) (SI POS FRQ)) = RP (YP Z) CTP STP := by
  funext i
  rw [eq_ix3 i]
  exact (PK_at _ _ _ _).trans (RP_at _ _ _ _)

theorem RS_at (Z) (b : Fin 128) (t : Fin 4) (j : Fin 32) : KR (ZR (COLS Z)) (CO POS FRQ) (SI POS FRQ) (ix2 (rs b t) j) = RS (YS Z) CTS STS (ix3 b t j) := by
  have h := YS_at Z b t
  have hc := CO_s b t
  have hs := SI_s b t
  generalize ZR (COLS Z) = u at h ⊢
  generalize YS Z = x at h ⊢
  generalize CO POS FRQ = C at hc ⊢
  generalize SI POS FRQ = S at hs ⊢
  generalize CTS = C' at hc ⊢
  generalize STS = S' at hs ⊢
  pointwise [KR, RS]
  split_ifs <;> simp only [h, hc, hs]

theorem eq_RS (Z) : SK (KR (ZR (COLS Z)) (CO POS FRQ) (SI POS FRQ)) = RS (YS Z) CTS STS := by
  funext i
  rw [eq_ix3 i]
  exact (SK_at _ _ _ _).trans (RS_at _ _ _ _)

/-- The cosines at the call. -/
theorem V_cos (c : Dev nD) : V m c main_v30 = CO POS FRQ := by
  unfold V V0
  simp only [hostOps0, List.flatten_cons, List.flatten_nil, List.append_nil, List.cons_append, List.nil_append]
  after_results
  rfl

/-- The sines at the call. -/
theorem V_sin (c : Dev nD) : V m c main_v32 = SI POS FRQ := by
  unfold V V0
  simp only [hostOps0, List.flatten_cons, List.flatten_nil, List.append_nil, List.cons_append, List.nil_append]
  after_results
  rfl

theorem tail_v62 (W : Valuation τ sig (Elt Ideal)) : StableHlo.after [hostOps1].flatten W (Proc.devRef .tc main_v62) = PR (NK (ZC (W (Proc.devRef .tc main_v34))) (W (Proc.devRef .tc main_arg3))) := by
  simp only [hostOps1, List.flatten_cons, List.flatten_nil, List.append_nil, List.cons_append, List.nil_append]
  after_results
  rfl

theorem tail_v64 (W : Valuation τ sig (Elt Ideal)) : StableHlo.after [hostOps1].flatten W (Proc.devRef .tc main_v64) = SA (NK (ZC (W (Proc.devRef .tc main_v34))) (W (Proc.devRef .tc main_arg3))) := by
  simp only [hostOps1, List.flatten_cons, List.flatten_nil, List.append_nil, List.cons_append, List.nil_append]
  after_results
  rfl

theorem tail_v66 (W : Valuation τ sig (Elt Ideal)) : StableHlo.after [hostOps1].flatten W (Proc.devRef .tc main_v66) = PK (KR (ZR (W (Proc.devRef .tc main_v34))) (W (Proc.devRef .tc main_v30)) (W (Proc.devRef .tc main_v32))) := by
  simp only [hostOps1, List.flatten_cons, List.flatten_nil, List.append_nil, List.cons_append, List.nil_append]
  after_results
  rfl

theorem tail_v68 (W : Valuation τ sig (Elt Ideal)) : StableHlo.after [hostOps1].flatten W (Proc.devRef .tc main_v68) = SK (KR (ZR (W (Proc.devRef .tc main_v34))) (W (Proc.devRef .tc main_v30)) (W (Proc.devRef .tc main_v32))) := by
  simp only [hostOps1, List.flatten_cons, List.flatten_nil, List.append_nil, List.cons_append, List.nil_append]
  after_results
  rfl

/-- The region's array after the region. -/
theorem W_z (c : Dev nD) : Pipeline.withArrays (cfgs 0).spec c (V0 m c) (fun w => (dats m 0 c).arrAt w (cfgs 0).N) (Proc.devRef .tc main_v34) = COLS (PRD (m ((c : Thread nD τ).loc main_arg0)) (m ((c : Thread nD τ).loc main_arg1)) (m ((c : Thread nD τ).loc main_arg2))) :=
  (Pipeline.withArrays_arr (cfgs 0).spec launch0.win.arr_inj c (V0 m c) _ 3).trans (final m c)

/-- The scale after the region. -/
theorem W_kn (c : Dev nD) : Pipeline.withArrays (cfgs 0).spec c (V0 m c) (fun w => (dats m 0 c).arrAt w (cfgs 0).N) (Proc.devRef .tc main_arg3) = (m ((c : Thread nD τ).loc main_arg3)) :=
  (Pipeline.withArrays_of_ne _ c (V0 m c) _ main_arg3 (by exact (by decide : ∀ w, Pipeline.arrRef spec0 w ≠ main_arg3))).trans (V_main_arg3 m c)

/-- The cosines after the region. -/
theorem W_cos (c : Dev nD) : Pipeline.withArrays (cfgs 0).spec c (V0 m c) (fun w => (dats m 0 c).arrAt w (cfgs 0).N) (Proc.devRef .tc main_v30) = CO POS FRQ :=
  (Pipeline.withArrays_of_ne _ c (V0 m c) _ main_v30 (by exact (by decide : ∀ w, Pipeline.arrRef spec0 w ≠ main_v30))).trans (V_cos m c)

/-- The sines after the region. -/
theorem W_sin (c : Dev nD) : Pipeline.withArrays (cfgs 0).spec c (V0 m c) (fun w => (dats m 0 c).arrAt w (cfgs 0).N) (Proc.devRef .tc main_v32) = SI POS FRQ :=
  (Pipeline.withArrays_of_ne _ c (V0 m c) _ main_v32 (by exact (by decide : ∀ w, Pipeline.arrRef spec0 w ≠ main_v32))).trans (V_sin m c)

/-- The program's results after its run are the reference's terms over the same arguments, which it leaves. -/
theorem run_all (ρ : Dev nD → PrngReg) : θ_run defs (onTc (τ := τ) (main (F := Ideal))) ⟨m, fun _ => 0, ρ⟩ fun r => ∀ c : Dev nD,
      r.2.mem ((c.tc : Thread nD τ).loc main_v34) = REF (m ((c : Thread nD τ).loc main_arg0)) (m ((c : Thread nD τ).loc main_arg1)) (m ((c : Thread nD τ).loc main_arg2))
      ∧ r.2.mem ((c.tc : Thread nD τ).loc main_v62) = NP (XP (PRD (m ((c : Thread nD τ).loc main_arg0)) (m ((c : Thread nD τ).loc main_arg1)) (m ((c : Thread nD τ).loc main_arg2)))) (m ((c : Thread nD τ).loc main_arg3))
      ∧ r.2.mem ((c.tc : Thread nD τ).loc main_v64) = NS (XS (PRD (m ((c : Thread nD τ).loc main_arg0)) (m ((c : Thread nD τ).loc main_arg1)) (m ((c : Thread nD τ).loc main_arg2)))) (m ((c : Thread nD τ).loc main_arg3))
      ∧ r.2.mem ((c.tc : Thread nD τ).loc main_v66) = RP (YP (PRD (m ((c : Thread nD τ).loc main_arg0)) (m ((c : Thread nD τ).loc main_arg1)) (m ((c : Thread nD τ).loc main_arg2)))) CTP STP
      ∧ r.2.mem ((c.tc : Thread nD τ).loc main_v68) = RS (YS (PRD (m ((c : Thread nD τ).loc main_arg0)) (m ((c : Thread nD τ).loc main_arg1)) (m ((c : Thread nD τ).loc main_arg2)))) CTS STS
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 3).trans (final m c),
    ((h c).2 main_v62 (Pipeline.mem_restRefs_of main_v62 (by decide) (by decide))).trans ((tail_v62 _).trans (by rw [W_z, W_kn]; exact eq_NP _ _)),
    ((h c).2 main_v64 (Pipeline.mem_restRefs_of main_v64 (by decide) (by decide))).trans ((tail_v64 _).trans (by rw [W_z, W_kn]; exact eq_NS _ _)),
    ((h c).2 main_v66 (Pipeline.mem_restRefs_of main_v66 (by decide) (by decide))).trans ((tail_v66 _).trans (by rw [W_z, W_cos, W_sin]; exact eq_RP _)),
    ((h c).2 main_v68 (Pipeline.mem_restRefs_of main_v68 (by decide) (by decide))).trans ((tail_v68 _).trans (by rw [W_z, W_cos, W_sin]; exact eq_RS _)),
    ((h c).1 0).trans (((dats m 0 c).arrAt_in 0 rfl _).trans (V_main_arg0 m c)),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩) (run_main m ρ)

end Cert.EvenInIdeal.Value

end
-- ==== Proof.RetSampleRef.lean ====
/- Retention of the sample batch: after its run the kernel's two result arrays are the reference's terms over the same arguments. -/
module

public import proofs.«01_k».proof.Proof.RetentionTables
public import proofs.«01_k».proof.Proof.Gen.RetSampleIdeal.Frame
public import proofs.«01_k».proof.Proof.Gen.RetSampleRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RetSampleRefIdeal.Value

open Cert.RetSampleRefIdeal Cert.RetSampleRefIdeal.Gen
open Cert.KernelIdeal.Value (LG)

/-- The four positions as numbers. -/
def POS4 : FVec Ideal S4 .f32 := sitofp .f32 (iotaInDim S4 32 0)

/-- A row of numbers over the four positions times each head's logarithm, exponentiated. -/
def EXPS4 (P : FVec Ideal S4 .f32) : FVec Ideal S4x4 .f32 :=
  Host.exp (mulf (broadcastInDim S4x4 ![0, 1] bcast_S1x4_S4x4_0_1 (broadcastInDim S1x4 ![1] bcast_S4_S1x4_1 P))
    (broadcastInDim S4x4 ![0, 1] bcast_S4x1_S4x4_0_1 (broadcastInDim S4x1 ![0] bcast_S4_S4x1_0 LG)))

/-- The difference of two of the four positions. -/
def DIF4 : FVec Ideal S4x4 .f32 :=
  subf (broadcastInDim S4x4 ![0, 1] bcast_S4x1_S4x4_0_1 (broadcastInDim S4x1 ![0] bcast_S4_S4x1_0 POS4))
    (broadcastInDim S4x4 ![0, 1] bcast_S1x4_S4x4_0_1 (broadcastInDim S1x4 ![1] bcast_S4_S1x4_1 POS4))

/-- The decay between two of the four positions. -/
def DM4 : FVec Ideal S4x4x4 .f32 :=
  select (broadcastInDim S4x4x4 ![1, 2] bcast_S4x4_S4x4x4_1_2 (cmpf .oge DIF4 (broadcastInDim S4x4 ![] bcast_S_S4x4 (constant S_ .f32 0x00000000#32))))
    (Host.exp (mulf (broadcastInDim S4x4x4 ![0, 1, 2] bcast_S1x4x4_S4x4x4_0_1_2 (broadcastInDim S1x4x4 ![1, 2] bcast_S4x4_S1x4x4_1_2 (maximumf DIF4 (broadcastInDim S4x4 ![] bcast_S_S4x4 (constant S_ .f32 0x00000000#32)))))
      (broadcastInDim S4x4x4 ![0, 1, 2] bcast_S4x1x1_S4x4x4_0_1_2 (broadcastInDim S4x1x1 ![0] bcast_S4_S4x1x1_0 LG))))
    (broadcastInDim S4x4x4 ![] bcast_S_S4x4x4 (id (constant S_ .f32 0x00000000#32)))

/-- The decay over the four positions. -/
def CD4 : FVec Ideal S4 .f32 := Host.exp (mulf (broadcastInDim S4 ![] bcast_S_S4 (constant S_ .f32 0x40800000#32)) LG)

/-- The decay of the state a query sees. -/
def QD4 : FVec Ideal S4x4 .f32 := EXPS4 (addf POS4 (broadcastInDim S4 ![] bcast_S_S4 (constant S_ .f32 0x3F800000#32)))

/-- The decay of a key until the last position. -/
def KD4 : FVec Ideal S4x4 .f32 := EXPS4 (subf (broadcastInDim S4 ![] bcast_S_S4 (constant S_ .f32 0x40400000#32)) POS4)

/-- An argument split into sequences and heads, heads first. -/
def HDS (X : FVec Ideal S512x512 .f32) : FVec Ideal S128x4x4x128 .f32 :=
  transpose S128x4x4x128 [0, 2, 1, 3] (shapeCast S128x4x4x128 X shapeCasts_S512x512_S128x4x4x128) transposes_S128x4x4x128_S128x4x4x128_0_2_1_3

/-- A decay over heads and positions, spread over sequences and lanes. -/
def SPR (P : FVec Ideal S4x4 .f32) : FVec Ideal S128x4x4x128 .f32 :=
  broadcastInDim S128x4x4x128 ![0, 1, 2, 3] bcast_S1x4x4x1_S128x4x4x128_0_1_2_3 (broadcastInDim S1x4x4x1 ![1, 2, 3] bcast_S4x4x1_S1x4x4x1_1_2_3 (broadcastInDim S4x4x1 ![0, 1] bcast_S4x4_S4x4x1_0_1 P))

/-- The reference's output over the four positions. -/
def OUT4 (Q K V : FVec Ideal S128x4x4x128 .f32) (S : FVec Ideal S128x4x128x128 .f32) : FVec Ideal S128x4x4x128 .f32 :=
  addf (Host.dotGeneral dot_S128x4x4x4_S128x4x4x128_S128x4x4x128_3_2_2_3_01_01 none
      (mulf (Host.dotGeneral dot_S128x4x4x128_S128x4x4x128_S128x4x4x4_3_3_2_2_01_01 none Q K)
        (broadcastInDim S128x4x4x4 ![0, 1, 2, 3] bcast_S1x4x4x4_S128x4x4x4_0_1_2_3 (broadcastInDim S1x4x4x4 ![1, 2, 3] bcast_S4x4x4_S1x4x4x4_1_2_3 DM4))) V)
    (Host.dotGeneral dot_S128x4x4x128_S128x4x128x128_S128x4x4x128_3_2_2_3_01_01 none (mulf Q (SPR QD4)) S)

/-- The reference's output: four positions' rows and rows of zeros. -/
def RO (Q K V : FVec Ideal S512x512 .f32) (S : FVec Ideal S128x4x128x128 .f32) : FVec Ideal S128x128x512 .f32 :=
  pad S128x128x512 ![0, 0, 0] ![0, 124, 0] ![0, 0, 0] (shapeCast S128x4x512 (transpose S128x4x4x128 [0, 2, 1, 3] (OUT4 (HDS Q) (HDS K) (HDS V) S) transposes_S128x4x4x128_S128x4x4x128_0_2_1_3) shapeCasts_S128x4x4x128_S128x4x512)
    (sitofp .f32 (constantI S_ 32 0#32) : FVec Ideal S_ .f32) pads_S128x4x512_S128x128x512_000_01240_000 h_S_

/-- The reference's state after the four positions. -/
def RS (K V : FVec Ideal S512x512 .f32) (S : FVec Ideal S128x4x128x128 .f32) : FVec Ideal S128x4x128x128 .f32 :=
  addf (mulf S (broadcastInDim S128x4x128x128 ![0, 1, 2, 3] bcast_S1x4x1x1_S128x4x128x128_0_1_2_3 (broadcastInDim S1x4x1x1 ![1, 2, 3] bcast_S4x1x1_S1x4x1x1_1_2_3 (broadcastInDim S4x1x1 ![0] bcast_S4_S4x1x1_0 CD4))))
    (Host.dotGeneral dot_S128x4x4x128_S128x4x4x128_S128x4x128x128_2_2_3_3_01_01 none (mulf (HDS K) (SPR KD4)) (HDS V))

variable (m' : (ℓ : Loc nD τ sig) → Buf (Elt Ideal) ℓ) (ρ' : Dev nD → PrngReg)

/-- The reference's run, its results by their names here. -/
theorem run' : θ_run defs (onTc (τ := τ) (main (F := Ideal))) ⟨m', fun _ => 0, ρ'⟩ fun r => ∀ c : Dev nD,
      r.2.mem ((c.tc : Thread nD τ).loc main_v73) = RO (m' ((c.tc : Thread nD τ).loc main_arg0)) (m' ((c.tc : Thread nD τ).loc main_arg1)) (m' ((c.tc : Thread nD τ).loc main_arg2)) (m' ((c.tc : Thread nD τ).loc main_arg3))
      ∧ r.2.mem ((c.tc : Thread nD τ).loc main_v70) = RS (m' ((c.tc : Thread nD τ).loc main_arg1)) (m' ((c.tc : Thread nD τ).loc main_arg2)) (m' ((c.tc : Thread nD τ).loc main_arg3))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3) :=
  run m' ρ'

/-- Row `x` of sequence `b`. -/
def rw4 (b : Fin 128) (x : Fin 4) : Fin 512 := ⟨b * 4 + x, by omega⟩

/-- Column `d` of head `h`. -/
def cl (h : Fin 4) (d : Fin 128) : Fin 512 := ⟨h * 128 + d, by omega⟩

theorem HDS_at (X) (b : Fin 128) (h x : Fin 4) (d : Fin 128) : HDS X (ix4 b h x d) = X (ix2 (rw4 b x) (cl h d)) := by
  pointwise [HDS]
  first | rfl | (congr 1; blk_ext [rw4, cl])

theorem SPR_at (P) (b : Fin 128) (h x : Fin 4) (d : Fin 128) : SPR P (ix4 b h x d) = P (ix2 h x) := by
  pointwise [SPR]

/-- One entry of the output over the four positions. -/
theorem OUT4_at (Q K V S) (b : Fin 128) (h q : Fin 4) (e : Fin 128) : OUT4 Q K V S (ix4 b h q e)
    = (∑ x : Fin 4, (∑ d : Fin 128, Q (ix4 b h q d) * K (ix4 b h x d)) * DM4 (ix3 h q x) * V (ix4 b h x e)) + ∑ d : Fin 128, Q (ix4 b h q d) * QD4 (ix2 h q) * S (ix4 b h d e) := by
  generalize hD : DM4 = D
  generalize hP : QD4 = P
  have hs : ∀ d : Fin 128, SPR P (ix4 b h q d) = P (ix2 h q) := fun d => SPR_at P b h q d
  unfold OUT4
  rw [hD, hP]
  generalize SPR P = P' at hs ⊢
  pointwise
  simp only [hs]

/-- One entry of the reference's state. -/
theorem RS_at (K V S) (b : Fin 128) (h : Fin 4) (d e : Fin 128) : RS K V S (ix4 b h d e)
    = S (ix4 b h d e) * CD4 (ix1 h) + ∑ x : Fin 4, K (ix2 (rw4 b x) (cl h d)) * KD4 (ix2 h x) * V (ix2 (rw4 b x) (cl h e)) := by
  have hk : ∀ x : Fin 4, HDS K (ix4 b h x d) = _ := fun x => HDS_at K b h x d
  have hv : ∀ x : Fin 4, HDS V (ix4 b h x e) = _ := fun x => HDS_at V b h x e
  have hs : ∀ x : Fin 4, SPR KD4 (ix4 b h x d) = _ := fun x => SPR_at KD4 b h x d
  unfold RS
  generalize CD4 = C
  generalize HDS K = K' at hk ⊢
  generalize HDS V = V' at hv ⊢
  generalize SPR KD4 = P' at hs ⊢
  pointwise
  simp only [hk, hv, hs]

/-- An entry of the reference's output in a row of a position. -/
theorem RO_at (Q K V S) (b x : Fin 128) (hx : x.val < 4) (h : Fin 4) (e : Fin 128) : RO Q K V S (ix3 b x (cl h e)) = OUT4 (HDS Q) (HDS K) (HDS V) S (ix4 b h ⟨x, hx⟩ e) := by
  unfold RO
  generalize OUT4 (HDS Q) (HDS K) (HDS V) S = O
  pointwise [cl]
  rw [dif_pos ⟨hx, by omega⟩]

/-- An entry of the reference's output in a row past the positions. -/
theorem RO_pad (Q K V S) (b x : Fin 128) (hx : ¬ x.val < 4) (j : Fin 512) : RO Q K V S (ix3 b x j) = (0 : EReal) := by
  unfold RO
  generalize OUT4 (HDS Q) (HDS K) (HDS V) S = O
  pointwise
  rw [dif_neg hx]
  simp [FloatOps.sitofp]

end Cert.RetSampleRefIdeal.Value

end
-- ==== Proof.RetSampleValue.lean ====
/- Retention of the sample batch: after its run the kernel's two result arrays are the reference's terms over the same arguments. -/
module

public import proofs.«01_k».proof.Proof.RetSampleRef
public import proofs.«01_k».proof.Proof.Gen.RetSampleIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RetSampleIdeal.Value

open Cert.RetSampleIdeal Cert.RetSampleIdeal.Gen
open Cert.KernelIdeal.Value (LG POS DM QD EXPS)
open Cert.RetSampleRefIdeal.Value (RO RS OUT4 HDS DM4 QD4 KD4 CD4 POS4 EXPS4 DIF4 rw4 cl HDS_at OUT4_at RS_at RO_at RO_pad)

variable (m : (ℓ : Loc nD τ sig) → Buf (Elt Ideal) ℓ)

/-- A key's decay as the kernel's host code computes it: positions past the four are masked. -/
def KDM : FVec Ideal S4x128 .f32 :=
  select (broadcastInDim S4x128 ![1] bcast_S128_S4x128_1 (cmpf .olt POS (broadcastInDim S128 ![] bcast_S_S128 (constant S_ .f32 0x40800000#32))))
    (EXPS (maximumf (subf (broadcastInDim S128 ![] bcast_S_S128 (constant S_ .f32 0x40400000#32)) POS) (broadcastInDim S128 ![] bcast_S_S128 (constant S_ .f32 0x00000000#32))))
    (broadcastInDim S4x128 ![] bcast_S_S4x128 (id (constant S_ .f32 0x00000000#32)))

/-- An argument padded by rows of zeros to 128 rows a sequence. -/
def PADD (X : FVec Ideal S512x512 .f32) : FVec Ideal S128x128x512 .f32 :=
  pad S128x128x512 ![0, 0, 0] ![0, 124, 0] ![0, 0, 0] (shapeCast S128x4x512 X shapeCasts_S512x512_S128x4x512) (sitofp .f32 (constantI S_ 32 0#32) : FVec Ideal S_ .f32) pads_S128x4x512_S128x128x512_000_01240_000 h_S_

theorem PADD_at (X) (b x : Fin 128) (hx : x.val < 4) (h : Fin 4) (d : Fin 128) : PADD X (ix3 b x (cl h d)) = X (ix2 (rw4 b ⟨x, hx⟩) (cl h d)) := by
  pointwise [PADD]
  rw [dif_pos hx]
  rfl

theorem PADD_pad (X) (b x : Fin 128) (hx : ¬ x.val < 4) (j : Fin 512) : PADD X (ix3 b x j) = (0 : EReal) := by
  pointwise [PADD]
  rw [dif_neg hx]
  simp [FloatOps.sitofp]

theorem DM_eq (h q x : Fin 4) : DM (ix3 h (Fin.castAdd 124 q) (Fin.castAdd 124 x)) = DM4 (ix3 h q x) := by
  pointwise [DM, Cert.KernelIdeal.Value.DIFF, DM4, DIF4, POS, POS4]
  rfl

theorem QD_eq (h q : Fin 4) : QD (ix2 h (Fin.castAdd 124 q)) = QD4 (ix2 h q) := by
  pointwise [QD, QD4, EXPS, EXPS4, POS, POS4]
  rfl

theorem KD_eq (h x : Fin 4) : KDM (ix2 h (Fin.castAdd 124 x)) = KD4 (ix2 h x) := by
  pointwise [KDM, KD4, EXPS, EXPS4, POS, POS4]
  have hp : (FloatOps.sitofp FTy.f32 (BitVec.ofNat 32 x) : Ideal .f32) = (((x : ℕ) : ℝ) : EReal) := by
    show (((BitVec.ofNat 32 (x : ℕ)).toInt : ℝ) : EReal) = _
    rw [BitVec.toInt_ofNat', Int.bmod_eq_of_le (by omega) (by omega)]
    simp
  have hc : (Fin.castAdd 124 x).val = x.val := rfl
  have h4 : Ideal.ofBits .f32 1082130432#32 = ((4 : ℝ) : EReal) := by
    simp [Ideal.ofBits, Ideal.ieee, -EReal.coe_mul]; norm_num
  have h3 : Ideal.ofBits .f32 1077936128#32 = ((3 : ℝ) : EReal) := by
    simp [Ideal.ofBits, Ideal.ieee, -EReal.coe_mul]; norm_num
  have hx : ((x : ℕ) : ℝ) ≤ 3 := by exact_mod_cast (by omega : (x : ℕ) ≤ 3)
  rw [hc, hp, h4, h3, if_pos (by exact_mod_cast (by omega : (x : ℕ) < 4)), max_eq_left]
  rw [← EReal.coe_sub]
  exact EReal.coe_nonneg.mpr (sub_nonneg.mpr hx)

/-- A sum over 128 rows of which only four count. -/
theorem sum4 (f : Fin 128 → EReal) (hf : ∀ x : Fin 128, ¬ x.val < 4 → f x = 0) : ∑ x, f x = ∑ x : Fin 4, f (Fin.castAdd 124 x) := by
  rw [show (∑ x : Fin 128, f x) = _ from Fin.sum_univ_add (a := 4) (b := 124) f, Finset.sum_eq_zero (s := Finset.univ (α := Fin 124)), add_zero]
  intro x _
  exact hf _ (by show ¬ 4 + x.val < 4; omega)

/-- The kernel's padded queries. -/
theorem V_q (c : Dev nD) : V m c main_v1 = PADD (m ((c : Thread nD τ).loc main_arg0)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl
/-- The kernel's padded keys. -/
theorem V_k (c : Dev nD) : V m c main_v3 = PADD (m ((c : Thread nD τ).loc main_arg1)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl
/-- The kernel's padded values. -/
theorem V_v (c : Dev nD) : V m c main_v5 = PADD (m ((c : Thread nD τ).loc main_arg2)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl
/-- The kernel's decay between positions. -/
theorem V_dm (c : Dev nD) : V m c main_v30 = DM := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl
/-- The kernel's decay of the state a query sees. -/
theorem V_qd (c : Dev nD) : V m c main_v56 = broadcastInDim S4x128x128 ![0, 1, 2] bcast_S4x128x1_S4x128x128_0_1_2 (broadcastInDim S4x128x1 ![0, 1] bcast_S4x128_S4x128x1_0_1 QD) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl
/-- The kernel's decay of a key. -/
theorem V_kd (c : Dev nD) : V m c main_v58 = broadcastInDim S4x128x128 ![0, 1, 2] bcast_S4x128x1_S4x128x128_0_1_2 (broadcastInDim S4x128x1 ![0, 1] bcast_S4x128_S4x128x1_0_1 KDM) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl
/-- The kernel's decay over the four positions. -/
theorem V_cd (c : Dev nD) : V m c main_v60 = broadcastInDim S4x8x128 ![0, 1, 2] bcast_S4x1x1_S4x8x128_0_1_2 (broadcastInDim S4x1x1 ![0] bcast_S4_S4x1x1_0 CD4) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

/-- Which block each window shows at a grid point: a sequence's rows and a head's columns, the head's tables, the head's state. -/
theorem idx : ∀ t : Fin cfg0.N, win0_0.index t = ![t.val / 4, 0, t.val % 4] ∧ win0_1.index t = ![t.val / 4, 0, t.val % 4]
    ∧ win0_2.index t = ![t.val / 4, 0, t.val % 4] ∧ win0_3.index t = ![t.val % 4, 0, 0] ∧ win0_4.index t = ![t.val % 4, 0, 0]
    ∧ win0_5.index t = ![t.val % 4, 0, 0] ∧ win0_6.index t = ![t.val % 4, 0, 0] ∧ win0_7.index t = ![t.val / 4, t.val % 4, 0, 0]
    ∧ win0_8.index t = ![t.val / 4, 0, t.val % 4] ∧ win0_9.index t = ![t.val / 4, t.val % 4, 0, 0] :=
  (by decide +kernel : ∀ t : Fin grid0.N, _)

/-- The sequence of a grid point. -/
def sq (t : Fin cfg0.N) : Fin 128 := ⟨t.val / 4, by have : t.val < 512 := lt_of_lt_of_eq t.isLt N_0; omega⟩
/-- The head of a grid point. -/
def hd (t : Fin cfg0.N) : Fin 4 := ⟨t.val % 4, Nat.mod_lt _ (by omega)⟩

/-- The queries' block. -/
theorem blk_q (c : Dev nD) (t : Fin cfg0.N) (x d : Fin 128) : (iblk m c 0 t : FVec Ideal S1x128x128 .f32) (ix3 0 x d) = PADD (m ((c : Thread nD τ).loc main_arg0)) (ix3 (sq t) x (cl (hd t) d)) := by
  have e : (iblk m c 0 t : FVec Ideal S1x128x128 .f32) (ix3 0 x d) = (V m c main_v1 : FVec Ideal S128x128x512 .f32) (ix3 (sq t) x (cl (hd t) d)) := by blk_ext [iblk, idx t, sq, hd, cl]
  rw [e, V_q]
/-- The keys' block. -/
theorem blk_k (c : Dev nD) (t : Fin cfg0.N) (x d : Fin 128) : (iblk m c 1 t : FVec Ideal S1x128x128 .f32) (ix3 0 x d) = PADD (m ((c : Thread nD τ).loc main_arg1)) (ix3 (sq t) x (cl (hd t) d)) := by
  have e : (iblk m c 1 t : FVec Ideal S1x128x128 .f32) (ix3 0 x d) = (V m c main_v3 : FVec Ideal S128x128x512 .f32) (ix3 (sq t) x (cl (hd t) d)) := by blk_ext [iblk, idx t, sq, hd, cl]
  rw [e, V_k]
/-- The values' block. -/
theorem blk_v (c : Dev nD) (t : Fin cfg0.N) (x d : Fin 128) : (iblk m c 2 t : FVec Ideal S1x128x128 .f32) (ix3 0 x d) = PADD (m ((c : Thread nD τ).loc main_arg2)) (ix3 (sq t) x (cl (hd t) d)) := by
  have e : (iblk m c 2 t : FVec Ideal S1x128x128 .f32) (ix3 0 x d) = (V m c main_v5 : FVec Ideal S128x128x512 .f32) (ix3 (sq t) x (cl (hd t) d)) := by blk_ext [iblk, idx t, sq, hd, cl]
  rw [e, V_v]
/-- The block of the decay between positions. -/
theorem blk_dm (c : Dev nD) (t : Fin cfg0.N) (x y : Fin 128) : (iblk m c 3 t : FVec Ideal S1x128x128 .f32) (ix3 0 x y) = DM (ix3 (hd t) x y) := by
  have e : (iblk m c 3 t : FVec Ideal S1x128x128 .f32) (ix3 0 x y) = (V m c main_v30 : FVec Ideal S4x128x128 .f32) (ix3 (hd t) x y) := by blk_ext [iblk, idx t, hd]
  rw [e, V_dm]
/-- The block of the decay a query sees. -/
theorem blk_qd (c : Dev nD) (t : Fin cfg0.N) (x y : Fin 128) : (iblk m c 4 t : FVec Ideal S1x128x128 .f32) (ix3 0 x y) = QD (ix2 (hd t) x) := by
  have e : (iblk m c 4 t : FVec Ideal S1x128x128 .f32) (ix3 0 x y) = (V m c main_v56 : FVec Ideal S4x128x128 .f32) (ix3 (hd t) x y) := by blk_ext [iblk, idx t, hd]
  rw [e, V_qd]
  pointwise
/-- The block of the decay of a key. -/
theorem blk_kd (c : Dev nD) (t : Fin cfg0.N) (x y : Fin 128) : (iblk m c 5 t : FVec Ideal S1x128x128 .f32) (ix3 0 x y) = KDM (ix2 (hd t) x) := by
  have e : (iblk m c 5 t : FVec Ideal S1x128x128 .f32) (ix3 0 x y) = (V m c main_v58 : FVec Ideal S4x128x128 .f32) (ix3 (hd t) x y) := by blk_ext [iblk, idx t, hd]
  rw [e, V_kd]
  pointwise
/-- The block of the decay over the four positions. -/
theorem blk_cd (c : Dev nD) (t : Fin cfg0.N) (x : Fin 8) (y : Fin 128) : (iblk m c 6 t : FVec Ideal S1x8x128 .f32) (ix3 0 x y) = CD4 (ix1 (hd t)) := by
  have e : (iblk m c 6 t : FVec Ideal S1x8x128 .f32) (ix3 0 x y) = (V m c main_v60 : FVec Ideal S4x8x128 .f32) (ix3 (hd t) x y) := by blk_ext [iblk, idx t, hd]
  rw [e, V_cd]
  pointwise
/-- The block of the state to begin with. -/
theorem blk_s (c : Dev nD) (t : Fin cfg0.N) (x y : Fin 128) : (iblk m c 7 t : FVec Ideal S1x1x128x128 .f32) (ix4 0 0 x y) = (m ((c : Thread nD τ).loc main_arg3) : FVec Ideal S128x4x128x128 .f32) (ix4 (sq t) (hd t) x y) := by
  blk_ext [iblk, V, idx t, sq, hd]

/-- The first row of a table's block. -/
def ldRow (B : (⟨S1x8x128, .f32⟩ : BufTy).Contents (Elt Ideal)) : (⟨S1x1x128, .f32⟩ : BufTy).Contents (Elt Ideal) :=
  View.ld B (Rect.unit ![0, 0, 0] ![1, 1, 128] inb_S1x8x128_S1x1x128_0_0_0)

theorem ldRow_at (B : FVec Ideal S1x8x128 .f32) (e : Fin 128) : (ldRow B : FVec Ideal S1x1x128 .f32) (ix3 0 0 e) = B (ix3 0 0 e) := by
  show B _ = B _
  congr 1
  blk_ext
  · rfl
  · show 0 + 1 * (e : ℕ) = e
    omega

/-- What a point leaves in the two result blocks. -/
theorem outs (c : Dev nD) (t : Fin cfg0.N) :
    (outsAt0 m c t).1 = k0_pay7 (iblk m c 0 t) (iblk m c 1 t) (iblk m c 2 t) (k0_pay4 (iblk m c 7 t)) (iblk m c 3 t) (iblk m c 4 t)
    ∧ (outsAt0 m c t).2 = k0_pay3 (k0_pay5 (iblk m c 1 t)) (k0_pay6 (iblk m c 2 t)) (k0_pay4 (iblk m c 7 t)) (iblk m c 5 t) (ldRow (iblk m c 6 t)) := by
  rw [outsAt0]
  dsimp only
  refine ⟨?_, ?_⟩
  · frame_out
  · frame_out
    rfl

theorem pay4_at (c : Dev nD) (t : Fin cfg0.N) (d e : Fin 128) : k0_pay4 (iblk m c 7 t) (ix2 d e) = (m ((c : Thread nD τ).loc main_arg3) : FVec Ideal S128x4x128x128 .f32) (ix4 (sq t) (hd t) d e) := by
  rw [← blk_s m c t d e]
  pointwise [k0_pay4]

/-- A point's output is the reference's at the place the block puts it. -/
theorem o_at (c : Dev nD) (t : Fin cfg0.N) (q e : Fin 128) : (outsAt0 m c t).1 (ix3 0 q e)
    = RO (m ((c : Thread nD τ).loc main_arg0)) (m ((c : Thread nD τ).loc main_arg1)) (m ((c : Thread nD τ).loc main_arg2)) (m ((c : Thread nD τ).loc main_arg3)) (ix3 (sq t) q (cl (hd t) e)) := by
  rw [(outs m c t).1]
  have hq := blk_q m c t
  have hk := blk_k m c t
  have hv := blk_v m c t
  have hdm := blk_dm m c t
  have hqd := blk_qd m c t
  have hS := pay4_at m c t
  have e1 : k0_pay7 (iblk m c 0 t) (iblk m c 1 t) (iblk m c 2 t) (k0_pay4 (iblk m c 7 t)) (iblk m c 3 t) (iblk m c 4 t) (ix3 0 q e)
      = (∑ x : Fin 128, (∑ d : Fin 128, PADD (m ((c : Thread nD τ).loc main_arg0)) (ix3 (sq t) q (cl (hd t) d)) * PADD (m ((c : Thread nD τ).loc main_arg1)) (ix3 (sq t) x (cl (hd t) d))) * DM (ix3 (hd t) q x) * PADD (m ((c : Thread nD τ).loc main_arg2)) (ix3 (sq t) x (cl (hd t) e)))
        + ∑ d : Fin 128, PADD (m ((c : Thread nD τ).loc main_arg0)) (ix3 (sq t) q (cl (hd t) d)) * QD (ix2 (hd t) q) * (m ((c : Thread nD τ).loc main_arg3) : FVec Ideal S128x4x128x128 .f32) (ix4 (sq t) (hd t) d e) := by
    generalize (iblk m c 0 t : FVec Ideal S1x128x128 .f32) = QB at hq ⊢
    generalize (iblk m c 1 t : FVec Ideal S1x128x128 .f32) = KB at hk ⊢
    generalize (iblk m c 2 t : FVec Ideal S1x128x128 .f32) = VB at hv ⊢
    generalize (iblk m c 3 t : FVec Ideal S1x128x128 .f32) = DMB at hdm ⊢
    generalize (iblk m c 4 t : FVec Ideal S1x128x128 .f32) = QDB at hqd ⊢
    generalize (k0_pay4 (iblk m c 7 t) : FVec Ideal S128x128 .f32) = SB at hS ⊢
    pointwise [k0_pay7, k0_pay5, k0_pay6]
    simp only [hS, hq, hk, hv, hdm, hqd]
  rw [e1]
  by_cases h4 : q.val < 4
  · rw [RO_at _ _ _ _ _ _ h4, OUT4_at, sum4 _ fun x hx => by rw [PADD_pad (m ((c : Thread nD τ).loc main_arg2)) _ _ hx, mul_zero]]
    obtain ⟨q', rfl⟩ : ∃ q' : Fin 4, q = Fin.castAdd 124 q' := ⟨⟨q.val, h4⟩, rfl⟩
    simp only [HDS_at, DM_eq, QD_eq]
    congr 1
    · refine Finset.sum_congr rfl fun x _ => ?_
      rw [PADD_at _ _ (Fin.castAdd 124 x) x.isLt]
      refine congrArg₂ (· * ·) (congrArg₂ (· * ·) (Finset.sum_congr rfl fun d _ => ?_) rfl) rfl
      rw [PADD_at _ _ (Fin.castAdd 124 x) x.isLt, PADD_at _ _ _ h4]
      rfl
    · refine Finset.sum_congr rfl fun d _ => ?_
      rw [PADD_at _ _ _ h4]
      rfl
  · rw [RO_pad _ _ _ _ _ _ h4]
    simp only [PADD_pad _ _ q h4, zero_mul, Finset.sum_const_zero, add_zero]

/-- What a point writes to the state's block is the reference's state. -/
theorem s_at (c : Dev nD) (t : Fin cfg0.N) (d e : Fin 128) : (outsAt0 m c t).2 (ix4 0 0 d e)
    = RS (m ((c : Thread nD τ).loc main_arg1)) (m ((c : Thread nD τ).loc main_arg2)) (m ((c : Thread nD τ).loc main_arg3)) (ix4 (sq t) (hd t) d e) := by
  rw [(outs m c t).2]
  have hk := blk_k m c t
  have hv := blk_v m c t
  have hkd := blk_kd m c t
  have hC : ∀ e, (ldRow (iblk m c 6 t) : FVec Ideal S1x1x128 .f32) (ix3 0 0 e) = CD4 (ix1 (hd t)) := fun e => (ldRow_at (iblk m c 6 t) e).trans (blk_cd m c t 0 e)
  have hS := pay4_at m c t
  have e1 : k0_pay3 (k0_pay5 (iblk m c 1 t)) (k0_pay6 (iblk m c 2 t)) (k0_pay4 (iblk m c 7 t)) (iblk m c 5 t) (ldRow (iblk m c 6 t)) (ix4 0 0 d e)
      = (show FVec Ideal S128x4x128x128 .f32 from m ((c : Thread nD τ).loc main_arg3)) (ix4 (sq t) (hd t) d e) * CD4 (ix1 (hd t))
        + ∑ x : Fin 128, PADD (m ((c : Thread nD τ).loc main_arg1)) (ix3 (sq t) x (cl (hd t) d)) * KDM (ix2 (hd t) x) * PADD (m ((c : Thread nD τ).loc main_arg2)) (ix3 (sq t) x (cl (hd t) e)) := by
    generalize (iblk m c 1 t : FVec Ideal S1x128x128 .f32) = KB at hk ⊢
    generalize (iblk m c 2 t : FVec Ideal S1x128x128 .f32) = VB at hv ⊢
    generalize (iblk m c 5 t : FVec Ideal S1x128x128 .f32) = KDB at hkd ⊢
    generalize (ldRow (iblk m c 6 t) : FVec Ideal S1x1x128 .f32) = CDB at hC ⊢
    generalize (k0_pay4 (iblk m c 7 t) : FVec Ideal S128x128 .f32) = SB at hS ⊢
    pointwise [k0_pay3, k0_pay1, k0_pay5, k0_pay6]
    simp only [hS, hC, hk, hv, hkd]
  rw [e1, RS_at, sum4 _ fun x hx => by rw [PADD_pad (m ((c : Thread nD τ).loc main_arg2)) _ _ hx, mul_zero]]
  congr 1
  refine Finset.sum_congr rfl fun x _ => ?_
  rw [PADD_at _ _ (Fin.castAdd 124 x) x.isLt, PADD_at _ _ (Fin.castAdd 124 x) x.isLt, KD_eq]
  rfl

/-- The output array after the run is the reference's. -/
theorem final_o (c : Dev nD) : (dats m 0 c).arrAt 8 (cfgs 0).N
    = RO (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]
  have hy : y = (ix3 0 (y 1) (y 2) : S1x128x128.Idx) := by blk_ext
  have hj : ((cfg0.win 8).blk t).view.emb y = (ix3 (sq t) (y 1) (cl (hd t) (y 2)) : S128x128x512.Idx) := by
    blk_ext [idx t, sq, hd, cl]
  rw [hj]
  exact (congrArg _ hy).trans (o_at m c t (y 1) (y 2))

/-- The state array after the run is the reference's. -/
theorem final_s (c : Dev nD) : (dats m 0 c).arrAt 9 (cfgs 0).N
    = RS (m ((c : Thread nD τ).loc main_arg1)) (m ((c : Thread nD τ).loc main_arg2)) (m ((c : Thread nD τ).loc main_arg3)) := by
  refine (dats m 0 c).arrAt_eq_of_covers 9 _ (by decide +kernel) fun t _ y => ?_
  blk_simp
  rw [after0_9]
  have hy : y = (ix4 0 0 (y 2) (y 3) : S1x1x128x128.Idx) := by blk_ext
  have hj : ((cfg0.win 9).blk t).view.emb y = (ix4 (sq t) (hd t) (y 2) (y 3) : S128x4x128x128.Idx) := by
    blk_ext [idx t, sq, hd]
  rw [hj]
  exact (congrArg _ hy).trans (s_at m c t (y 2) (y 3))

end Cert.RetSampleIdeal.Value

end
-- ==== Proof.OddInValue.lean ====
/- The input projection of the odd layers: after its run the kernel's result array is the reference's term over the same arguments. -/
module

public import proofs.«01_k».proof.Proof.Gen.OddInIdeal.Frame
public import proofs.«01_k».proof.Proof.Gen.OddInRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OddInRefIdeal.Value

open Cert.OddInRefIdeal Cert.OddInRefIdeal.Gen

/-- The reference's rows: the rows of `X`, normalised by the root of their mean square and scaled by `Gn`. -/
abbrev NRM (X : FVec Ideal S16896x1024 .f32) (Gn : FVec Ideal S1024 .f32) :
    FVec Ideal S16896x1024 .f32 :=
  mulf (mulf X (broadcastInDim S16896x1024 ![0, 1] bcast_S16896x1_S16896x1024_0_1 (Host.rsqrt (addf (Host.divf (broadcastInDim S16896x1 ![0] bcast_S16896_S16896x1_0 (Host.reduceAdd (mulf X X) (constant S_ .f32 0x00000000#32) reducesTo_S16896x1024_S16896_d1 h_S_)) (broadcastInDim S16896x1 ![] bcast_S_S16896x1 (constant S_ .f32 0x44800000#32))) (broadcastInDim S16896x1 ![] bcast_S_S16896x1 (constant S_ .f32 0x358637BD#32)))))) (broadcastInDim S16896x1024 ![0, 1] bcast_S1x1024_S16896x1024_0_1 (broadcastInDim S1x1024 ![1] bcast_S1024_S1x1024_1 Gn))

/-- The columns of `Z` in the kernel's order, and columns of zeros. -/
abbrev COLS (Z : FVec Ideal S16896x1840 .f32) : FVec Ideal S16896x1920 .f32 :=
  concatenate S16896x1920 1 [⟨S16896x1024, ((extractStridedSlice S16896x1024 ![0, 0] Z slices_S16896x1840_S16896x1024_0_0))⟩, ⟨S16896x256, ((shapeCast _ (shapeCast _ (extractStridedSlice S16896x1x2x2x64 ![0, 0, 0, 0, 0] (shapeCast _ (extractStridedSlice S16896x768 ![0, 1024] Z slices_S16896x1840_S16896x768_0_1024) shapeCasts_S16896x768_S16896x3x2x2x64) slices_S16896x3x2x2x64_S16896x1x2x2x64_0_0_0_0_0) shapeCasts_S16896x1x2x2x64_S16896x2x2x64) shapeCasts_S16896x2x2x64_S16896x256))⟩, ⟨S16896x256, ((shapeCast _ (transpose S16896x2x2x64 [0, 2, 1, 3] (shapeCast _ (extractStridedSlice S16896x1x2x2x64 ![0, 1, 0, 0, 0] (shapeCast _ (extractStridedSlice S16896x768 ![0, 1024] Z slices_S16896x1840_S16896x768_0_1024) shapeCasts_S16896x768_S16896x3x2x2x64) slices_S16896x3x2x2x64_S16896x1x2x2x64_0_1_0_0_0) shapeCasts_S16896x1x2x2x64_S16896x2x2x64) transposes_S16896x2x2x64_S16896x2x2x64_0_2_1_3) shapeCasts_S16896x2x2x64_S16896x256))⟩, ⟨S16896x256, ((shapeCast _ (transpose S16896x2x2x64 [0, 2, 1, 3] (shapeCast _ (extractStridedSlice S16896x1x2x2x64 ![0, 2, 0, 0, 0] (shapeCast _ (extractStridedSlice S16896x768 ![0, 1024] Z slices_S16896x1840_S16896x768_0_1024) shapeCasts_S16896x768_S16896x3x2x2x64) slices_S16896x3x2x2x64_S16896x1x2x2x64_0_2_0_0_0) shapeCasts_S16896x1x2x2x64_S16896x2x2x64) transposes_S16896x2x2x64_S16896x2x2x64_0_2_1_3) shapeCasts_S16896x2x2x64_S16896x256))⟩, ⟨S16896x48, ((extractStridedSlice S16896x48 ![0, 1792] Z slices_S16896x1840_S16896x48_0_1792))⟩, ⟨S16896x80, ((broadcastInDim S16896x80 ![] bcast_S_S16896x80 (constant S_ .f32 0x00000000#32)))⟩] concatenates_S16896x1024_S16896x256_S16896x256_S16896x256_S16896x48_S16896x80_S16896x1920_d1

/-- The normalised rows times `Wt`. -/
abbrev PRD (X : FVec Ideal S16896x1024 .f32) (Gn : FVec Ideal S1024 .f32) (Wt : FVec Ideal S1024x1840 .f32) : FVec Ideal S16896x1840 .f32 :=
  Host.dotGeneral dot_S16896x1024_S1024x1840_S16896x1840_1_0_0_1_n_n none (NRM X Gn) Wt

/-- The reference's first result: the product, its columns in the kernel's order. -/
abbrev REF (X : FVec Ideal S16896x1024 .f32) (Gn : FVec Ideal S1024 .f32) (Wt : FVec Ideal S1024x1840 .f32) : FVec Ideal S16896x1920 .f32 :=
  COLS (PRD X Gn Wt)

/-- The keys and values of all branches in `Z`. -/
abbrev KV (Z : FVec Ideal S16896x1840 .f32) : FVec Ideal S16896x3x2x2x64 .f32 :=
  shapeCast _ (extractStridedSlice S16896x768 ![0, 1024] Z slices_S16896x1840_S16896x768_0_1024) shapeCasts_S16896x768_S16896x3x2x2x64

/-- Those of the prompt's rows. -/
abbrev KVP (Z : FVec Ideal S16896x1840 .f32) : FVec Ideal S8x2048x3x2x2x64 .f32 :=
  shapeCast _ (extractStridedSlice S16384x3x2x2x64 ![0, 0, 0, 0, 0] (KV Z) slices_S16896x3x2x2x64_S16384x3x2x2x64_0_0_0_0_0) shapeCasts_S16384x3x2x2x64_S8x2048x3x2x2x64

/-- Those of the sampled rows. -/
abbrev KVS (Z : FVec Ideal S16896x1840 .f32) : FVec Ideal S128x4x3x2x2x64 .f32 :=
  shapeCast _ (extractStridedSlice S512x3x2x2x64 ![16384, 0, 0, 0, 0] (KV Z) slices_S16896x3x2x2x64_S512x3x2x2x64_16384_0_0_0_0) shapeCasts_S512x3x2x2x64_S128x4x3x2x2x64

/-- The compressed branch's, of the prompt. -/
abbrev CP (Z : FVec Ideal S16896x1840 .f32) : FVec Ideal S8x2048x2x2x64 .f32 :=
  shapeCast _ (extractStridedSlice S8x2048x1x2x2x64 ![0, 0, 0, 0, 0, 0] (KVP Z) slices_S8x2048x3x2x2x64_S8x2048x1x2x2x64_0_0_0_0_0_0) shapeCasts_S8x2048x1x2x2x64_S8x2048x2x2x64

/-- The compressed branch's, of the samples. -/
abbrev CS (Z : FVec Ideal S16896x1840 .f32) : FVec Ideal S128x4x2x2x64 .f32 :=
  shapeCast _ (extractStridedSlice S128x4x1x2x2x64 ![0, 0, 0, 0, 0, 0] (KVS Z) slices_S128x4x3x2x2x64_S128x4x1x2x2x64_0_0_0_0_0_0) shapeCasts_S128x4x1x2x2x64_S128x4x2x2x64

/-- The selected branch's, of the prompt. -/
abbrev SP (Z : FVec Ideal S16896x1840 .f32) : FVec Ideal S8x2048x2x2x64 .f32 :=
  shapeCast _ (extractStridedSlice S8x2048x1x2x2x64 ![0, 0, 1, 0, 0, 0] (KVP Z) slices_S8x2048x3x2x2x64_S8x2048x1x2x2x64_0_0_1_0_0_0) shapeCasts_S8x2048x1x2x2x64_S8x2048x2x2x64

/-- The selected branch's, of the samples. -/
abbrev SS (Z : FVec Ideal S16896x1840 .f32) : FVec Ideal S128x4x2x2x64 .f32 :=
  shapeCast _ (extractStridedSlice S128x4x1x2x2x64 ![0, 0, 1, 0, 0, 0] (KVS Z) slices_S128x4x3x2x2x64_S128x4x1x2x2x64_0_0_1_0_0_0) shapeCasts_S128x4x1x2x2x64_S128x4x2x2x64

/-- The window branch's, of the prompt's last rows. -/
abbrev WPR (Z : FVec Ideal S16896x1840 .f32) : FVec Ideal S8x512x2x2x64 .f32 :=
  shapeCast _ (extractStridedSlice S8x512x1x2x2x64 ![0, 1536, 2, 0, 0, 0] (KVP Z) slices_S8x2048x3x2x2x64_S8x512x1x2x2x64_0_1536_2_0_0_0) shapeCasts_S8x512x1x2x2x64_S8x512x2x2x64

/-- The window branch's, of the samples. -/
abbrev WS (Z : FVec Ideal S16896x1840 .f32) : FVec Ideal S128x4x2x2x64 .f32 :=
  shapeCast _ (extractStridedSlice S128x4x1x2x2x64 ![0, 0, 2, 0, 0, 0] (KVS Z) slices_S128x4x3x2x2x64_S128x4x1x2x2x64_0_0_2_0_0_0) shapeCasts_S128x4x1x2x2x64_S128x4x2x2x64

/-- The window `C` moved on by the samples' rows. -/
abbrev WSH (C : FVec Ideal S128x512x2x2x64 .f32) (N : FVec Ideal S128x4x2x2x64 .f32) : FVec Ideal S128x512x2x2x64 .f32 :=
  extractStridedSlice S128x512x2x2x64 ![0, 4, 0, 0, 0] (concatenate S128x516x2x2x64 1 [⟨S128x512x2x2x64, C⟩, ⟨S128x4x2x2x64, N⟩] concatenates_S128x512x2x2x64_S128x4x2x2x64_S128x516x2x2x64_d1) slices_S128x516x2x2x64_S128x512x2x2x64_0_4_0_0_0

end Cert.OddInRefIdeal.Value

namespace Cert.OddInIdeal.Value

open Cert.OddInIdeal Cert.OddInIdeal.Gen

open Cert.OddInRefIdeal.Value (NRM COLS PRD REF KV KVP KVS CP CS SP SS WPR WS WSH)

variable (m : (ℓ : Loc nD τ sig) → Buf (Elt Ideal) ℓ)

/-- The kernel's weight: the columns of `Wt` in the kernel's order, and columns of zeros. -/
abbrev WP (Wt : FVec Ideal S1024x1840 .f32) : FVec Ideal S1024x1920 .f32 :=
  concatenate S1024x1920 1 [⟨S1024x1280, extractStridedSlice S1024x1280 ![0, 0] Wt slices_S1024x1840_S1024x1280_0_0⟩,
    ⟨S1024x256, shapeCast _ (transpose S1024x2x2x64 [0, 2, 1, 3] (shapeCast _ (extractStridedSlice S1024x1x2x2x64 ![0, 1, 0, 0, 0] (shapeCast _ (extractStridedSlice S1024x768 ![0, 1024] Wt slices_S1024x1840_S1024x768_0_1024) shapeCasts_S1024x768_S1024x3x2x2x64) slices_S1024x3x2x2x64_S1024x1x2x2x64_0_1_0_0_0) shapeCasts_S1024x1x2x2x64_S1024x2x2x64) transposes_S1024x2x2x64_S1024x2x2x64_0_2_1_3) shapeCasts_S1024x2x2x64_S1024x256⟩,
    ⟨S1024x256, shapeCast _ (transpose S1024x2x2x64 [0, 2, 1, 3] (shapeCast _ (extractStridedSlice S1024x1x2x2x64 ![0, 2, 0, 0, 0] (shapeCast _ (extractStridedSlice S1024x768 ![0, 1024] Wt slices_S1024x1840_S1024x768_0_1024) shapeCasts_S1024x768_S1024x3x2x2x64) slices_S1024x3x2x2x64_S1024x1x2x2x64_0_2_0_0_0) shapeCasts_S1024x1x2x2x64_S1024x2x2x64) transposes_S1024x2x2x64_S1024x2x2x64_0_2_1_3) shapeCasts_S1024x2x2x64_S1024x256⟩,
    ⟨S1024x48, extractStridedSlice S1024x48 ![0, 1792] Wt slices_S1024x1840_S1024x48_0_1792⟩,
    ⟨S1024x80, broadcastInDim S1024x80 ![] bcast_S_S1024x80 (constant S_ .f32 0x00000000#32)⟩] concatenates_S1024x1280_S1024x256_S1024x256_S1024x48_S1024x80_S1024x1920_d1

/-- The third operand at the call. -/
theorem V_w (c : Dev nD) : V m c main_v14 = truncf .bf16 (WP (m ((c : Thread nD τ).loc main_arg2))) bitsLt_bf16_f32 := by
  unfold V V0
  simp only [hostOps0, List.flatten_cons, List.flatten_nil, List.append_nil, List.cons_append, List.nil_append]
  after_results
  rfl

/-- The second operand at the call. -/
theorem V_g (c : Dev nD) : V m c main_v15 = shapeCast S1x1024 (m ((c : Thread nD τ).loc main_arg1)) shapeCasts_S1024_S1x1024 := by
  unfold V V0
  simp only [hostOps0, List.flatten_cons, List.flatten_nil, List.append_nil, List.cons_append, List.nil_append]
  after_results
  rfl

/-- The column of the weight which the kernel's column `j` shows. -/
def src (j : ℕ) : ℕ :=
  if j < 1280 then j
  else if j < 1536 then 1280 + ((j - 1280) / 64 % 2 * 128 + (j - 1280) / 128 * 64 + (j - 1280) % 64)
  else if j < 1792 then 1536 + ((j - 1536) / 64 % 2 * 128 + (j - 1536) / 128 * 64 + (j - 1536) % 64)
  else j

theorem src_lt {j : ℕ} (h : j < 1840) : src j < 1840 := by
  unfold src
  split_ifs <;> omega

set_option maxHeartbeats 4000000 in
theorem COLS_at (Z) (r : Fin 16896) (j : Fin 1920) :
    COLS Z (ix2 r j) = if h : j.val < 1840 then Z (ix2 r ⟨src j.val, src_lt h⟩) else 0 := by
  pointwise [COLS]
  split_ifs
  all_goals first
    | (exfalso; omega)
    | (rw [dif_pos (by omega)]
       refine congrArg Z (congrArg (ix2 r) (Fin.ext ?_))
       dsimp only
       unfold src
       split_ifs <;> omega)
    | rfl
    | simp

set_option maxHeartbeats 4000000 in
theorem WP_at (Wt) (k : Fin 1024) (j : Fin 1920) :
    WP Wt (ix2 k j) = if h : j.val < 1840 then Wt (ix2 k ⟨src j.val, src_lt h⟩) else 0 := by
  pointwise [WP]
  split_ifs
  all_goals first
    | (exfalso; omega)
    | (rw [dif_pos (by omega)]
       refine congrArg Wt (congrArg (ix2 k) (Fin.ext ?_))
       dsimp only
       unfold src
       split_ifs <;> omega)
    | rfl
    | simp

/-- An entry of the reference's result is the normalised row times the kernel's column. -/
theorem REF_at (X Gn Wt) (r : Fin 16896) (j : Fin 1920) :
    REF X Gn Wt (ix2 r j) = ∑ k : Fin 1024, NRM X Gn (ix2 r k) * WP Wt (ix2 k j) := by
  unfold REF PRD
  generalize NRM X Gn = P
  rw [COLS_at]
  simp only [WP_at]
  split_ifs
  · pointwise
  · simp

/-- Which block each window shows at a grid point. -/
theorem idx : ∀ t : Fin cfg0.N, win0_0.index t = ![t.val / 3, 0] ∧ win0_1.index t = ![0, 0]
    ∧ win0_2.index t = ![0, t.val % 3] ∧ win0_3.index t = ![t.val / 3, t.val % 3] :=
  (by decide +kernel : ∀ t : Fin grid0.N, _)

/-- Inside a run of 3 points the row block stays the same. -/
theorem iblk0_pred (c : Dev nD) (t t' : Fin cfg0.N) (h : t.val = t'.val + 1) (hk : ¬ t.val % 3 = 0) :
    iblk m c 0 t' = iblk m c 0 t := by
  have e : t'.val / 3 = t.val / 3 := by omega
  have i0 := (idx t).1
  have i0' := (idx t').1
  rw [e, ← i0] at i0'
  funext x
  blk_simp [iblk]
  congr 1
  blk_ext [i0']

/-- The scale's block is the whole array at every point. -/
theorem iblk1_const (c : Dev nD) (t t' : Fin cfg0.N) : iblk m c 1 t' = iblk m c 1 t := by
  have i0 := (idx t).2.1
  have i0' := (idx t').2.1
  rw [← i0] at i0'
  funext x
  blk_simp [iblk]
  congr 1
  blk_ext [i0']

/-- The kept scratch holds the normalised rows of the point's row block. -/
theorem scratch (c : Dev nD) (n : ℕ) (hn : n < cfg0.N) :
    (outsAt0 m c n hn).2 = k0_pay1 (iblk m c 0 ⟨n, hn⟩) (iblk m c 1 ⟨n, hn⟩) := by
  induction n with
  | zero => rw [outsAt0_A m c ⟨0, hn⟩ rfl]; frame_out
  | succ n ih =>
    by_cases h : (n + 1) % 3 = 0
    · rw [outsAt0_A m c ⟨n + 1, hn⟩ h]; frame_out
    · rw [outsAt0_B m c ⟨n + 1, hn⟩ h]; frame_out
      refine (ih (Nat.lt_of_succ_lt hn)).trans ?_
      rw [iblk0_pred m c ⟨n + 1, hn⟩ ⟨n, Nat.lt_of_succ_lt hn⟩ rfl h, iblk1_const m c ⟨n + 1, hn⟩ ⟨n, Nat.lt_of_succ_lt hn⟩]

/-- What a point leaves in the result's block. -/
theorem outs (c : Dev nD) (t : Fin cfg0.N) :
    (outsAt0 m c t.val t.isLt).1 = k0_pay2 (k0_pay1 (iblk m c 0 t) (iblk m c 1 t)) (iblk m c 2 t) := by
  by_cases h : t.val % 3 = 0
  · rw [outsAt0_A m c t h]; frame_out
  · rw [outsAt0_B m c t h, scratch m c (t.val - 1), iblk0_pred m c t ⟨t.val - 1, _⟩ (by simp only []; omega) h,
      iblk1_const m c t ⟨t.val - 1, _⟩]
    frame_out
    exact congrArg (fun x => k0_pay2 x _) (Memref.IsWhole.read_unread _ _)

/-- One entry of a point's product is the reference's entry at the place the block puts it. -/
theorem point (c : Dev nD) (t : Fin cfg0.N) (y) :
    k0_pay2 (k0_pay1 (iblk m c 0 t) (iblk m c 1 t)) (iblk m c 2 t) y
      = REF (m ((c : Thread nD τ).loc main_arg0)) (m ((c : Thread nD τ).loc main_arg1)) (m ((c : Thread nD τ).loc main_arg2)) (((cfg0.win 3).blk t).view.emb y) := by
  have ht : t.val < 99 := lt_of_lt_of_eq t.isLt N_0
  have hy0 : (y 0 : ℕ) < 512 := (y 0).isLt
  have hy1 : (y 1 : ℕ) < 640 := (y 1).isLt
  obtain ⟨r, hr⟩ : ∃ r : Fin 16896, r.val = t.val / 3 * 512 + (y 0 : ℕ) := ⟨⟨_, by omega⟩, rfl⟩
  obtain ⟨j, hj⟩ : ∃ j : Fin 1920, j.val = t.val % 3 * 640 + (y 1 : ℕ) := ⟨⟨_, by omega⟩, rfl⟩
  have hv : ((cfg0.win 3).blk t).view.emb y = (ix2 r j : S16896x1920.Idx) := by
    blk_ext [idx t, hr, hj]
  rw [hv, REF_at]
  have h1 : ∀ x : Fin 1024, (iblk m c 1 t : FVec Ideal S1x1024 .f32) (ix2 0 x) = (m ((c : Thread nD τ).loc main_arg1) : FVec Ideal S1024 .f32) (ix1 x) := fun x => by
    refine Eq.trans ?_ ((congrFun (V_g m c) (ix2 0 x)).trans (by pointwise))
    blk_ext [iblk, idx t]
  have h0 : ∀ x : Fin 1024, k0_pay1 (iblk m c 0 t) (iblk m c 1 t) (ix2 (y 0) x)
      = NRM (m ((c : Thread nD τ).loc main_arg0)) (m ((c : Thread nD τ).loc main_arg1)) (ix2 r x) := fun x => by
    pointwise [k0_pay1, NRM]
    simp only [h1]
    blk_point [iblk, V, V0, idx t, hr]
  have h2 : ∀ x : Fin 1024, (iblk m c 2 t : FVec Ideal S1024x640 .bf16) (ix2 x (y 1)) = WP (m ((c : Thread nD τ).loc main_arg2)) (ix2 x j) := fun x => by
    refine Eq.trans ?_ (congrFun (V_w m c) (ix2 x j))
    blk_ext [iblk, idx t, hj]
  generalize WP (m ((c : Thread nD τ).loc main_arg2)) = W at h2 ⊢
  generalize NRM (m ((c : Thread nD τ).loc main_arg0)) (m ((c : Thread nD τ).loc main_arg1)) = P at h0 ⊢
  generalize k0_pay1 (iblk m c 0 t) (iblk m c 1 t) = Q at h0 ⊢
  generalize iblk m c 2 t = B at h2 ⊢
  pointwise [k0_pay2]
  simp only [h0, h2]

/-- The result array after the run is the reference's term. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, outs]
  exact point m c t y

end Cert.OddInIdeal.Value

end
-- ==== Proof.OddInTail.lean ====
/- The host operations after the odd layers' input projection: each of the program's results is the reference's. -/
module

public import proofs.«01_k».proof.Proof.OddInValue

@[expose] public section

set_option maxRecDepth 16384

noncomputable section

open Idealize.ShloMosaic Idealize.ShloMosaic.TcCoe Idealize.SL.Sem
open Idealize.ShloMosaic.Pipeline (Dat)

namespace Cert.OddInRefIdeal.Value

open Cert.OddInRefIdeal Cert.OddInRefIdeal.Gen

theorem KV_at (Z) (r : Fin 16896) (b : Fin 3) (u v : Fin 2) (d : Fin 64) :
    KV Z (ix5 r b u v d) = Z (ix2 r ⟨1024 + (b.val * 256 + u.val * 128 + v.val * 64 + d.val), by omega⟩) := by
  pointwise [KV]
  try (refine congrArg Z (congrArg₂ ix2 (Fin.ext ?_) (Fin.ext ?_)) <;> dsimp only <;> omega)

/-- The prompt's rows of the three branches. -/
abbrev PR3 (K : FVec Ideal S16896x3x2x2x64 .f32) : FVec Ideal S8x2048x3x2x2x64 .f32 :=
  shapeCast _ (extractStridedSlice S16384x3x2x2x64 ![0, 0, 0, 0, 0] K slices_S16896x3x2x2x64_S16384x3x2x2x64_0_0_0_0_0) shapeCasts_S16384x3x2x2x64_S8x2048x3x2x2x64

theorem PR3_at (K) (b : Fin 8) (t : Fin 2048) (k : Fin 3) (u v : Fin 2) (d : Fin 64) :
    PR3 K (ix6 b t k u v d) = K (ix5 ⟨b.val * 2048 + t.val, by omega⟩ k u v d) := by
  pointwise [PR3]

/-- The sampled rows of the three branches. -/
abbrev SA3 (K : FVec Ideal S16896x3x2x2x64 .f32) : FVec Ideal S128x4x3x2x2x64 .f32 :=
  shapeCast _ (extractStridedSlice S512x3x2x2x64 ![16384, 0, 0, 0, 0] K slices_S16896x3x2x2x64_S512x3x2x2x64_16384_0_0_0_0) shapeCasts_S512x3x2x2x64_S128x4x3x2x2x64

theorem SA3_at (K) (b : Fin 128) (t : Fin 4) (k : Fin 3) (u v : Fin 2) (d : Fin 64) :
    SA3 K (ix6 b t k u v d) = K (ix5 ⟨16384 + (b.val * 4 + t.val), by omega⟩ k u v d) := by
  pointwise [SA3]

theorem PR1_at (X : FVec Ideal S8x2048x3x2x2x64 .f32) (n : Nat) (hn : n < 3) (h) (b : Fin 8) (t : Fin 2048) (u v : Fin 2) (d : Fin 64) :
    shapeCast S8x2048x2x2x64 (extractStridedSlice S8x2048x1x2x2x64 ![0, 0, n, 0, 0, 0] X h) shapeCasts_S8x2048x1x2x2x64_S8x2048x2x2x64 (ix5 b t u v d) = X (ix6 b t ⟨n, hn⟩ u v d) := by
  pointwise

theorem SA1_at (X : FVec Ideal S128x4x3x2x2x64 .f32) (n : Nat) (hn : n < 3) (h) (b : Fin 128) (t : Fin 4) (u v : Fin 2) (d : Fin 64) :
    shapeCast S128x4x2x2x64 (extractStridedSlice S128x4x1x2x2x64 ![0, 0, n, 0, 0, 0] X h) shapeCasts_S128x4x1x2x2x64_S128x4x2x2x64 (ix5 b t u v d) = X (ix6 b t ⟨n, hn⟩ u v d) := by
  pointwise

theorem WI1_at (X : FVec Ideal S8x2048x3x2x2x64 .f32) (n : Nat) (hn : n < 3) (h) (b : Fin 8) (t : Fin 512) (u v : Fin 2) (d : Fin 64) :
    shapeCast S8x512x2x2x64 (extractStridedSlice S8x512x1x2x2x64 ![0, 1536, n, 0, 0, 0] X h) shapeCasts_S8x512x1x2x2x64_S8x512x2x2x64 (ix5 b t u v d) = X (ix6 b ⟨1536 + t.val, by omega⟩ ⟨n, hn⟩ u v d) := by
  pointwise

theorem CP_at (Z) (b : Fin 8) (t : Fin 2048) (u v : Fin 2) (d : Fin 64) :
    CP Z (ix5 b t u v d) = KV Z (ix5 ⟨b.val * 2048 + t.val, by omega⟩ 0 u v d) :=
  (PR1_at _ 0 (by decide) _ b t u v d).trans (PR3_at (KV Z) b t 0 u v d)

theorem CS_at (Z) (b : Fin 128) (t : Fin 4) (u v : Fin 2) (d : Fin 64) :
    CS Z (ix5 b t u v d) = KV Z (ix5 ⟨16384 + (b.val * 4 + t.val), by omega⟩ 0 u v d) :=
  (SA1_at _ 0 (by decide) _ b t u v d).trans (SA3_at (KV Z) b t 0 u v d)

theorem SP_at (Z) (b : Fin 8) (t : Fin 2048) (u v : Fin 2) (d : Fin 64) :
    SP Z (ix5 b t u v d) = KV Z (ix5 ⟨b.val * 2048 + t.val, by omega⟩ 1 u v d) :=
  (PR1_at _ 1 (by decide) _ b t u v d).trans (PR3_at (KV Z) b t 1 u v d)

theorem SS_at (Z) (b : Fin 128) (t : Fin 4) (u v : Fin 2) (d : Fin 64) :
    SS Z (ix5 b t u v d) = KV Z (ix5 ⟨16384 + (b.val * 4 + t.val), by omega⟩ 1 u v d) :=
  (SA1_at _ 1 (by decide) _ b t u v d).trans (SA3_at (KV Z) b t 1 u v d)

theorem WPR_at (Z) (b : Fin 8) (t : Fin 512) (u v : Fin 2) (d : Fin 64) :
    WPR Z (ix5 b t u v d) = KV Z (ix5 ⟨b.val * 2048 + (1536 + t.val), by omega⟩ 2 u v d) :=
  (WI1_at _ 2 (by decide) _ b t u v d).trans (PR3_at (KV Z) b ⟨1536 + t.val, by omega⟩ 2 u v d)

theorem WS_at (Z) (b : Fin 128) (t : Fin 4) (u v : Fin 2) (d : Fin 64) :
    WS Z (ix5 b t u v d) = KV Z (ix5 ⟨16384 + (b.val * 4 + t.val), by omega⟩ 2 u v d) :=
  (SA1_at _ 2 (by decide) _ b t u v d).trans (SA3_at (KV Z) b t 2 u v d)

end Cert.OddInRefIdeal.Value

namespace Cert.OddInRefIdeal.Value

open Cert.OddInRefIdeal Cert.OddInRefIdeal.Gen

/-- The reference's results after its run, by name. -/
theorem run' (m' : (ℓ : Loc nD τ sig) → Buf (Elt Ideal) ℓ) (ρ' : Dev nD → PrngReg) : θ_run defs (onTc (τ := τ) (main (F := Ideal))) ⟨m', fun _ => 0, ρ'⟩ fun r => ∀ c : Dev nD,
      r.2.mem ((c.tc : Thread nD τ).loc main_v30) = REF (m' ((c : Thread nD τ).loc main_arg0)) (m' ((c : Thread nD τ).loc main_arg1)) (m' ((c : Thread nD τ).loc main_arg2))
      ∧ r.2.mem ((c.tc : Thread nD τ).loc main_v36) = CP (PRD (m' ((c : Thread nD τ).loc main_arg0)) (m' ((c : Thread nD τ).loc main_arg1)) (m' ((c : Thread nD τ).loc main_arg2)))
      ∧ r.2.mem ((c.tc : Thread nD τ).loc main_v38) = CS (PRD (m' ((c : Thread nD τ).loc main_arg0)) (m' ((c : Thread nD τ).loc main_arg1)) (m' ((c : Thread nD τ).loc main_arg2)))
      ∧ r.2.mem ((c.tc : Thread nD τ).loc main_v40) = SP (PRD (m' ((c : Thread nD τ).loc main_arg0)) (m' ((c : Thread nD τ).loc main_arg1)) (m' ((c : Thread nD τ).loc main_arg2)))
      ∧ r.2.mem ((c.tc : Thread nD τ).loc main_v42) = SS (PRD (m' ((c : Thread nD τ).loc main_arg0)) (m' ((c : Thread nD τ).loc main_arg1)) (m' ((c : Thread nD τ).loc main_arg2)))
      ∧ r.2.mem ((c.tc : Thread nD τ).loc main_v44) = WPR (PRD (m' ((c : Thread nD τ).loc main_arg0)) (m' ((c : Thread nD τ).loc main_arg1)) (m' ((c : Thread nD τ).loc main_arg2)))
      ∧ r.2.mem ((c.tc : Thread nD τ).loc main_v48) = WSH (m' ((c : Thread nD τ).loc main_arg3)) (WS (PRD (m' ((c : Thread nD τ).loc main_arg0)) (m' ((c : Thread nD τ).loc main_arg1)) (m' ((c : Thread nD τ).loc main_arg2))))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3) :=
  run m' ρ'

end Cert.OddInRefIdeal.Value

namespace Cert.OddInIdeal.Value

open Cert.OddInIdeal Cert.OddInIdeal.Gen
open Cert.OddInRefIdeal.Value (NRM COLS PRD REF KV KVP KVS CP CS SP SS WPR WS WSH KV_at CP_at CS_at SP_at SS_at WPR_at WS_at)

variable (m : (ℓ : Loc nD τ sig) → Buf (Elt Ideal) ℓ)

/-- The kernel's columns from `1024`, by row. -/
abbrev CMP (z : FVec Ideal S16896x1920 .f32) : FVec Ideal S16896x2x2x64 .f32 :=
  shapeCast _ (extractStridedSlice S16896x256 ![0, 1024] z slices_S16896x1920_S16896x256_0_1024) shapeCasts_S16896x256_S16896x2x2x64

/-- The kernel's columns from `1280`, put back from their order by key head. -/
abbrev SEL (z : FVec Ideal S16896x1920 .f32) : FVec Ideal S16896x2x2x64 .f32 :=
  transpose S16896x2x2x64 [0, 2, 1, 3] (shapeCast _ (extractStridedSlice S16896x256 ![0, 1280] z slices_S16896x1920_S16896x256_0_1280) shapeCasts_S16896x256_S16896x2x2x64) transposes_S16896x2x2x64_S16896x2x2x64_0_2_1_3

/-- The kernel's columns from `1536`, put back from their order by key head. -/
abbrev WIN (z : FVec Ideal S16896x1920 .f32) : FVec Ideal S16896x2x2x64 .f32 :=
  transpose S16896x2x2x64 [0, 2, 1, 3] (shapeCast _ (extractStridedSlice S16896x256 ![0, 1536] z slices_S16896x1920_S16896x256_0_1536) shapeCasts_S16896x256_S16896x2x2x64) transposes_S16896x2x2x64_S16896x2x2x64_0_2_1_3

/-- The prompt's rows of `x`. -/
abbrev PRO (x : FVec Ideal S16896x2x2x64 .f32) : FVec Ideal S8x2048x2x2x64 .f32 :=
  shapeCast _ (extractStridedSlice S16384x2x2x64 ![0, 0, 0, 0] x slices_S16896x2x2x64_S16384x2x2x64_0_0_0_0) shapeCasts_S16384x2x2x64_S8x2048x2x2x64

/-- The sampled rows of `x`. -/
abbrev SAM (x : FVec Ideal S16896x2x2x64 .f32) : FVec Ideal S128x4x2x2x64 .f32 :=
  shapeCast _ (extractStridedSlice S512x2x2x64 ![16384, 0, 0, 0] x slices_S16896x2x2x64_S512x2x2x64_16384_0_0_0) shapeCasts_S512x2x2x64_S128x4x2x2x64

theorem CMP_at (z) (r : Fin 16896) (u v : Fin 2) (d : Fin 64) :
    CMP z (ix4 r u v d) = z (ix2 r ⟨1024 + (u.val * 128 + v.val * 64 + d.val), by omega⟩) := by
  pointwise [CMP]
  try (refine congrArg z (congrArg₂ ix2 (Fin.ext ?_) (Fin.ext ?_)) <;> dsimp only <;> omega)

theorem SEL_at (z) (r : Fin 16896) (u v : Fin 2) (d : Fin 64) :
    SEL z (ix4 r u v d) = z (ix2 r ⟨1280 + (v.val * 128 + u.val * 64 + d.val), by omega⟩) := by
  pointwise [SEL]
  try (refine congrArg z (congrArg₂ ix2 (Fin.ext ?_) (Fin.ext ?_)) <;> dsimp only <;> omega)

theorem WIN_at (z) (r : Fin 16896) (u v : Fin 2) (d : Fin 64) :
    WIN z (ix4 r u v d) = z (ix2 r ⟨1536 + (v.val * 128 + u.val * 64 + d.val), by omega⟩) := by
  pointwise [WIN]
  try (refine congrArg z (congrArg₂ ix2 (Fin.ext ?_) (Fin.ext ?_)) <;> dsimp only <;> omega)

theorem CMP_eq (Z) (r : Fin 16896) (u v : Fin 2) (d : Fin 64) : CMP (COLS Z) (ix4 r u v d) = KV Z (ix5 r 0 u v d) := by
  rw [CMP_at, KV_at, COLS_at, dif_pos (by dsimp only; omega)]
  refine congrArg Z (congrArg (ix2 r) (Fin.ext ?_))
  simp only [src, Fin.val_zero]
  split_ifs <;> omega

theorem SEL_eq (Z) (r : Fin 16896) (u v : Fin 2) (d : Fin 64) : SEL (COLS Z) (ix4 r u v d) = KV Z (ix5 r 1 u v d) := by
  rw [SEL_at, KV_at, COLS_at, dif_pos (by dsimp only; omega)]
  refine congrArg Z (congrArg (ix2 r) (Fin.ext ?_))
  simp only [src, Fin.val_one]
  split_ifs <;> omega

theorem WIN_eq (Z) (r : Fin 16896) (u v : Fin 2) (d : Fin 64) : WIN (COLS Z) (ix4 r u v d) = KV Z (ix5 r 2 u v d) := by
  rw [WIN_at, KV_at, COLS_at, dif_pos (by dsimp only; omega)]
  refine congrArg Z (congrArg (ix2 r) (Fin.ext ?_))
  simp only [src, Fin.val_two]
  split_ifs <;> omega

theorem PRO_at (x) (b : Fin 8) (t : Fin 2048) (u v : Fin 2) (d : Fin 64) :
    PRO x (ix5 b t u v d) = x (ix4 ⟨b.val * 2048 + t.val, by omega⟩ u v d) := by
  pointwise [PRO]

theorem SAM_at (x) (b : Fin 128) (t : Fin 4) (u v : Fin 2) (d : Fin 64) :
    SAM x (ix5 b t u v d) = x (ix4 ⟨16384 + (b.val * 4 + t.val), by omega⟩ u v d) := by
  pointwise [SAM]

/-- The last rows of each prompt sequence. -/
abbrev LST (x : FVec Ideal S8x2048x2x2x64 .f32) : FVec Ideal S8x512x2x2x64 .f32 :=
  extractStridedSlice S8x512x2x2x64 ![0, 1536, 0, 0, 0] x slices_S8x2048x2x2x64_S8x512x2x2x64_0_1536_0_0_0

theorem LST_at (x) (b : Fin 8) (t : Fin 512) (u v : Fin 2) (d : Fin 64) :
    LST x (ix5 b t u v d) = x (ix5 b ⟨1536 + t.val, by omega⟩ u v d) := by
  pointwise [LST]

theorem eq_CP (Z) : PRO (CMP (COLS Z)) = CP Z := by
  funext i
  rw [eq_ix5 i]
  exact (PRO_at _ _ _ _ _ _).trans ((CMP_eq _ _ _ _ _).trans (CP_at _ _ _ _ _ _).symm)

theorem eq_CS (Z) : SAM (CMP (COLS Z)) = CS Z := by
  funext i
  rw [eq_ix5 i]
  exact (SAM_at _ _ _ _ _ _).trans ((CMP_eq _ _ _ _ _).trans (CS_at _ _ _ _ _ _).symm)

theorem eq_SP (Z) : PRO (SEL (COLS Z)) = SP Z := by
  funext i
  rw [eq_ix5 i]
  exact (PRO_at _ _ _ _ _ _).trans ((SEL_eq _ _ _ _ _).trans (SP_at _ _ _ _ _ _).symm)

theorem eq_SS (Z) : SAM (SEL (COLS Z)) = SS Z := by
  funext i
  rw [eq_ix5 i]
  exact (SAM_at _ _ _ _ _ _).trans ((SEL_eq _ _ _ _ _).trans (SS_at _ _ _ _ _ _).symm)

theorem eq_WPR (Z) : LST (PRO (WIN (COLS Z))) = WPR Z := by
  funext i
  rw [eq_ix5 i]
  exact (LST_at _ _ _ _ _ _).trans ((PRO_at _ _ _ _ _ _).trans ((WIN_eq _ _ _ _ _).trans (WPR_at _ _ _ _ _ _).symm))

theorem eq_WS (Z) : SAM (WIN (COLS Z)) = WS Z := by
  funext i
  rw [eq_ix5 i]
  exact (SAM_at _ _ _ _ _ _).trans ((WIN_eq _ _ _ _ _).trans (WS_at _ _ _ _ _ _).symm)

theorem tail_v26 (W : Valuation τ sig (Elt Ideal)) : StableHlo.after [hostOps1].flatten W (Proc.devRef .tc main_v26) = PRO (CMP (W (Proc.devRef .tc main_v16))) := by
  simp only [hostOps1, List.flatten_cons, List.flatten_nil, List.append_nil, List.cons_append, List.nil_append]
  after_results
  rfl

theorem tail_v28 (W : Valuation τ sig (Elt Ideal)) : StableHlo.after [hostOps1].flatten W (Proc.devRef .tc main_v28) = SAM (CMP (W (Proc.devRef .tc main_v16))) := by
  simp only [hostOps1, List.flatten_cons, List.flatten_nil, List.append_nil, List.cons_append, List.nil_append]
  after_results
  rfl

theorem tail_v30 (W : Valuation τ sig (Elt Ideal)) : StableHlo.after [hostOps1].flatten W (Proc.devRef .tc main_v30) = PRO (SEL (W (Proc.devRef .tc main_v16))) := by
  simp only [hostOps1, List.flatten_cons, List.flatten_nil, List.append_nil, List.cons_append, List.nil_append]
  after_results
  rfl

theorem tail_v32 (W : Valuation τ sig (Elt Ideal)) : StableHlo.after [hostOps1].flatten W (Proc.devRef .tc main_v32) = SAM (SEL (W (Proc.devRef .tc main_v16))) := by
  simp only [hostOps1, List.flatten_cons, List.flatten_nil, List.append_nil, List.cons_append, List.nil_append]
  after_results
  rfl

theorem tail_v35 (W : Valuation τ sig (Elt Ideal)) : StableHlo.after [hostOps1].flatten W (Proc.devRef .tc main_v35) = LST (PRO (WIN (W (Proc.devRef .tc main_v16)))) := by
  simp only [hostOps1, List.flatten_cons, List.flatten_nil, List.append_nil, List.cons_append, List.nil_append]
  after_results
  rfl

theorem tail_v39 (W : Valuation τ sig (Elt Ideal)) : StableHlo.after [hostOps1].flatten W (Proc.devRef .tc main_v39) = WSH (W (Proc.devRef .tc main_arg3)) (SAM (WIN (W (Proc.devRef .tc main_v16)))) := by
  simp only [hostOps1, List.flatten_cons, List.flatten_nil, List.append_nil, List.cons_append, List.nil_append]
  after_results
  rfl

/-- The region's array after the region. -/
theorem W_z (c : Dev nD) : Pipeline.withArrays (cfgs 0).spec c (V0 m c) (fun w => (dats m 0 c).arrAt w (cfgs 0).N) (Proc.devRef .tc main_v16) = COLS (PRD (m ((c : Thread nD τ).loc main_arg0)) (m ((c : Thread nD τ).loc main_arg1)) (m ((c : Thread nD τ).loc main_arg2))) :=
  (Pipeline.withArrays_arr (cfgs 0).spec launch0.win.arr_inj c (V0 m c) _ 3).trans (final m c)

/-- The window's cache after the region. -/
theorem W_c (c : Dev nD) : Pipeline.withArrays (cfgs 0).spec c (V0 m c) (fun w => (dats m 0 c).arrAt w (cfgs 0).N) (Proc.devRef .tc main_arg3) = (m ((c : Thread nD τ).loc main_arg3)) :=
  (Pipeline.withArrays_of_ne _ c (V0 m c) _ main_arg3 (by exact (by decide : ∀ w, Pipeline.arrRef spec0 w ≠ main_arg3))).trans (V_main_arg3 m c)

/-- The program's results after its run are the reference's terms over the same arguments, which it leaves. -/
theorem run_all (ρ : Dev nD → PrngReg) : θ_run defs (onTc (τ := τ) (main (F := Ideal))) ⟨m, fun _ => 0, ρ⟩ fun r => ∀ c : Dev nD,
      r.2.mem ((c.tc : Thread nD τ).loc main_v16) = REF (m ((c : Thread nD τ).loc main_arg0)) (m ((c : Thread nD τ).loc main_arg1)) (m ((c : Thread nD τ).loc main_arg2))
      ∧ r.2.mem ((c.tc : Thread nD τ).loc main_v26) = CP (PRD (m ((c : Thread nD τ).loc main_arg0)) (m ((c : Thread nD τ).loc main_arg1)) (m ((c : Thread nD τ).loc main_arg2)))
      ∧ r.2.mem ((c.tc : Thread nD τ).loc main_v28) = CS (PRD (m ((c : Thread nD τ).loc main_arg0)) (m ((c : Thread nD τ).loc main_arg1)) (m ((c : Thread nD τ).loc main_arg2)))
      ∧ r.2.mem ((c.tc : Thread nD τ).loc main_v30) = SP (PRD (m ((c : Thread nD τ).loc main_arg0)) (m ((c : Thread nD τ).loc main_arg1)) (m ((c : Thread nD τ).loc main_arg2)))
      ∧ r.2.mem ((c.tc : Thread nD τ).loc main_v32) = SS (PRD (m ((c : Thread nD τ).loc main_arg0)) (m ((c : Thread nD τ).loc main_arg1)) (m ((c : Thread nD τ).loc main_arg2)))
      ∧ r.2.mem ((c.tc : Thread nD τ).loc main_v35) = WPR (PRD (m ((c : Thread nD τ).loc main_arg0)) (m ((c : Thread nD τ).loc main_arg1)) (m ((c : Thread nD τ).loc main_arg2)))
      ∧ r.2.mem ((c.tc : Thread nD τ).loc main_v39) = WSH (m ((c : Thread nD τ).loc main_arg3)) (WS (PRD (m ((c : Thread nD τ).loc main_arg0)) (m ((c : Thread nD τ).loc main_arg1)) (m ((c : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 3).trans (final m c),
    ((h c).2 main_v26 (Pipeline.mem_restRefs_of main_v26 (by decide) (by decide))).trans ((tail_v26 _).trans (by rw [W_z]; exact eq_CP _)),
    ((h c).2 main_v28 (Pipeline.mem_restRefs_of main_v28 (by decide) (by decide))).trans ((tail_v28 _).trans (by rw [W_z]; exact eq_CS _)),
    ((h c).2 main_v30 (Pipeline.mem_restRefs_of main_v30 (by decide) (by decide))).trans ((tail_v30 _).trans (by rw [W_z]; exact eq_SP _)),
    ((h c).2 main_v32 (Pipeline.mem_restRefs_of main_v32 (by decide) (by decide))).trans ((tail_v32 _).trans (by rw [W_z]; exact eq_SS _)),
    ((h c).2 main_v35 (Pipeline.mem_restRefs_of main_v35 (by decide) (by decide))).trans ((tail_v35 _).trans (by rw [W_z]; exact eq_WPR _)),
    ((h c).2 main_v39 (Pipeline.mem_restRefs_of main_v39 (by decide) (by decide))).trans ((tail_v39 _).trans (by rw [W_z, W_c, eq_WS])),
    ((h c).1 0).trans (((dats m 0 c).arrAt_in 0 rfl _).trans (V_main_arg0 m c)),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩) (run_main m ρ)

end Cert.OddInIdeal.Value

end
-- ==== Proof.MixOutValue.lean ====
/- The projection back to the stream: after its run the kernel's result array is the reference's term over the same arguments. -/
module

public import proofs.«01_k».proof.Proof.Gen.MixOutIdeal.Frame
public import proofs.«01_k».proof.Proof.Gen.MixOutRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixOutIdeal.Value

open Cert.MixOutIdeal Cert.MixOutIdeal.Gen

variable (m : (ℓ : Loc nD τ sig) → Buf (Elt Ideal) ℓ)

/-- The reference's result: the rows of `X` times `Wt`, added to `H`. -/
abbrev REF (X : FVec Ideal Cert.MixOutRefIdeal.S16896x1024 .f32) (Wt : FVec Ideal Cert.MixOutRefIdeal.S1024x1024 .f32)
    (H : FVec Ideal Cert.MixOutRefIdeal.S16896x1024 .f32) : FVec Ideal Cert.MixOutRefIdeal.S16896x1024 .f32 :=
  open Cert.MixOutRefIdeal Cert.MixOutRefIdeal.Gen in
  addf H (Host.dotGeneral dot_S16896x1024_S1024x1024_S16896x1024_1_0_0_1_n_n none X Wt)

/-- Which block each window shows at a grid point. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- What a point leaves in the result's block. -/
theorem outs (c : Dev nD) (t : Fin cfg0.N) :
    outsAt0 m c t = k0_pay2 (k0_pay1 (iblk m c 0 t)) (iblk m c 1 t) (iblk m c 2 t) := by
  unfold outsAt0
  frame_out

/-- One entry of a point's result is the reference's entry at the place the block puts it. -/
theorem point (c : Dev nD) (t : Fin cfg0.N) (y) :
    k0_pay2 (k0_pay1 (iblk m c 0 t)) (iblk m c 1 t) (iblk m c 2 t) y
      = REF (m ((c : Thread nD τ).loc main_arg0)) (m ((c : Thread nD τ).loc main_arg1)) (m ((c : Thread nD τ).loc main_arg2)) (((cfg0.win 3).blk t).view.emb y) := by
  pointwise [k0_pay1, k0_pay2, REF]
  rw [add_comm]
  blk_point [iblk, V, idx t]

/-- The result array after the run is the reference's term. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, outs]
  exact point m c t y

end Cert.MixOutIdeal.Value

end
-- ==== Proof.lean ====
/- The claims of `Cert.Claim`, put together: the frames from the generated runs, the values from the modules beside this one. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpRefIdeal
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownRefIdeal
public import proofs.«01_k».proof.Proof.Gen.FinalNorm
public import proofs.«01_k».proof.Proof.Gen.FinalNorm.Skeleton
public import proofs.«01_k».proof.Proof.Gen.FinalNorm.Launch
public import proofs.«01_k».proof.Proof.Gen.FinalNorm.Points
public import proofs.«01_k».proof.Proof.Gen.FinalNorm.Frame
public import proofs.«01_k».proof.Proof.Gen.FinalNormIdeal
public import proofs.«01_k».proof.Proof.Gen.FinalNormIdeal.Skeleton
public import proofs.«01_k».proof.Proof.Gen.FinalNormIdeal.Launch
public import proofs.«01_k».proof.Proof.Gen.FinalNormIdeal.Points
public import proofs.«01_k».proof.Proof.Gen.FinalNormIdeal.Frame
public import proofs.«01_k».proof.Proof.Gen.FinalNormRefIdeal
public import proofs.«01_k».proof.Proof.Gen.EvenIn
public import proofs.«01_k».proof.Proof.Gen.EvenIn.Skeleton
public import proofs.«01_k».proof.Proof.Gen.EvenIn.Launch
public import proofs.«01_k».proof.Proof.Gen.EvenIn.Points
public import proofs.«01_k».proof.Proof.Gen.EvenIn.Frame
public import proofs.«01_k».proof.Proof.Gen.EvenInIdeal
public import proofs.«01_k».proof.Proof.Gen.EvenInIdeal.Skeleton
public import proofs.«01_k».proof.Proof.Gen.EvenInIdeal.Launch
public import proofs.«01_k».proof.Proof.Gen.EvenInIdeal.Points
public import proofs.«01_k».proof.Proof.Gen.EvenInIdeal.Frame
public import proofs.«01_k».proof.Proof.Gen.EvenInRefIdeal
public import proofs.«01_k».proof.Proof.Gen.OddIn
public import proofs.«01_k».proof.Proof.Gen.OddIn.Skeleton
public import proofs.«01_k».proof.Proof.Gen.OddIn.Launch
public import proofs.«01_k».proof.Proof.Gen.OddIn.Points
public import proofs.«01_k».proof.Proof.Gen.OddIn.Frame
public import proofs.«01_k».proof.Proof.Gen.OddInIdeal
public import proofs.«01_k».proof.Proof.Gen.OddInIdeal.Skeleton
public import proofs.«01_k».proof.Proof.Gen.OddInIdeal.Launch
public import proofs.«01_k».proof.Proof.Gen.OddInIdeal.Points
public import proofs.«01_k».proof.Proof.Gen.OddInIdeal.Frame
public import proofs.«01_k».proof.Proof.Gen.OddInRefIdeal
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutRefIdeal
public import proofs.«01_k».proof.Proof.Gen.RetSample
public import proofs.«01_k».proof.Proof.Gen.RetSample.Skeleton
public import proofs.«01_k».proof.Proof.Gen.RetSample.Launch
public import proofs.«01_k».proof.Proof.Gen.RetSample.Points
public import proofs.«01_k».proof.Proof.Gen.RetSample.Frame
public import proofs.«01_k».proof.Proof.Gen.RetSampleIdeal
public import proofs.«01_k».proof.Proof.Gen.RetSampleIdeal.Skeleton
public import proofs.«01_k».proof.Proof.Gen.RetSampleIdeal.Launch
public import proofs.«01_k».proof.Proof.Gen.RetSampleIdeal.Points
public import proofs.«01_k».proof.Proof.Gen.RetSampleIdeal.Frame
public import proofs.«01_k».proof.Proof.Gen.RetSampleRefIdeal
public import proofs.«01_k».proof.Proof.Gen.RetSampleIdeal.Value
public import proofs.«01_k».proof.Proof.Gen.RetSampleRefIdeal.Run
public import proofs.«01_k».proof.Proof.Gen.KernelIdeal.Value
public import proofs.«01_k».proof.Proof.Gen.ReferenceIdeal.Run
public import proofs.«01_k».proof.Proof.Gen.FfnUpIdeal.Value
public import proofs.«01_k».proof.Proof.Gen.FfnUpRefIdeal.Run
public import proofs.«01_k».proof.Proof.Gen.FfnDownIdeal.Value
public import proofs.«01_k».proof.Proof.Gen.FfnDownRefIdeal.Run
public import proofs.«01_k».proof.Proof.Gen.FinalNormIdeal.Value
public import proofs.«01_k».proof.Proof.Gen.FinalNormRefIdeal.Run
public import proofs.«01_k».proof.Proof.Gen.EvenInRefIdeal.Run
public import proofs.«01_k».proof.Proof.Gen.OddInRefIdeal.Run
public import proofs.«01_k».proof.Proof.Gen.MixOutIdeal.Value
public import proofs.«01_k».proof.Proof.Gen.MixOutRefIdeal.Run
public import proofs.«01_k».proof.Proof.RetentionValue
public import proofs.«01_k».proof.Proof.FfnUpValue
public import proofs.«01_k».proof.Proof.FfnDownValue
public import proofs.«01_k».proof.Proof.FinalNormValue
public import proofs.«01_k».proof.Proof.EvenInTail
public import proofs.«01_k».proof.Proof.RetSampleValue
public import proofs.«01_k».proof.Proof.OddInTail
public import proofs.«01_k».proof.Proof.MixOutValue
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The retention reference ends with its arguments as launched and has no semaphore to leave raised. -/
theorem frame_ReferenceIdeal : Cert.quiescent_ReferenceIdeal := fun m g _ =>
  (θ_run _ _ _).mono (fun r h => ⟨fun c => (h c).2.2, sem_eq_zero_of_no_sems rfl r.2⟩) (Cert.ReferenceIdeal.Value.run m g)

/-- The up-projection reference ends with its arguments as launched and has no semaphore to leave raised. -/
theorem frame_FfnUpRefIdeal : Cert.quiescent_FfnUpRefIdeal := fun m g _ =>
  (θ_run _ _ _).mono (fun r h => ⟨fun c => (h c).2, sem_eq_zero_of_no_sems rfl r.2⟩) (Cert.FfnUpRefIdeal.Value.run m g)

/-- The down-projection reference ends with its arguments as launched and has no semaphore to leave raised. -/
theorem frame_FfnDownRefIdeal : Cert.quiescent_FfnDownRefIdeal := fun m g _ =>
  (θ_run _ _ _).mono (fun r h => ⟨fun c => (h c).2, sem_eq_zero_of_no_sems rfl r.2⟩) (Cert.FfnDownRefIdeal.Value.run m g)

/-- The reference of the final norm ends with its arguments as launched and has no semaphore to leave raised. -/
theorem frame_FinalNormRefIdeal : Cert.quiescent_FinalNormRefIdeal := fun m g _ =>
  (θ_run _ _ _).mono (fun r h => ⟨fun c => (h c).2, sem_eq_zero_of_no_sems rfl r.2⟩) (Cert.FinalNormRefIdeal.Value.run m g)

/-- The reference of the even layers' input projection ends with its arguments as launched and has no semaphore to leave raised. -/
theorem frame_EvenInRefIdeal : Cert.quiescent_EvenInRefIdeal := fun m g _ =>
  (θ_run _ _ _).mono (fun r h => ⟨fun c => (h c).2.2.2.2.2, sem_eq_zero_of_no_sems rfl r.2⟩) (Cert.EvenInRefIdeal.Value.run m g)

/-- The reference of the odd layers' input projection ends with its arguments as launched and has no semaphore to leave raised. -/
theorem frame_OddInRefIdeal : Cert.quiescent_OddInRefIdeal := fun m g _ =>
  (θ_run _ _ _).mono (fun r h => ⟨fun c => (h c).2.2.2.2.2.2.2, sem_eq_zero_of_no_sems rfl r.2⟩) (Cert.OddInRefIdeal.Value.run m g)

/-- The reference of the output projection ends with its arguments as launched and has no semaphore to leave raised. -/
theorem frame_MixOutRefIdeal : Cert.quiescent_MixOutRefIdeal := fun m g _ =>
  (θ_run _ _ _).mono (fun r h => ⟨fun c => (h c).2, sem_eq_zero_of_no_sems rfl r.2⟩) (Cert.MixOutRefIdeal.Value.run m g)

/-- The reference of the retention of the samples ends with its arguments as launched and has no semaphore to leave raised. -/
theorem frame_RetSampleRefIdeal : Cert.quiescent_RetSampleRefIdeal := fun m g _ =>
  (θ_run _ _ _).mono (fun r h => ⟨fun c => (h c).2.2, sem_eq_zero_of_no_sems rfl r.2⟩) (Cert.RetSampleRefIdeal.Value.run m g)

/-- The retention call's two results are the reference's. -/
theorem algebraic_ret : Cert.algebraic_KernelIdeal_ReferenceIdeal := fun m g m' g' _ hm =>
  ⟨_, _, Cert.KernelIdeal.Value.run_blocks m g, (θ_run _ _ _).mono (fun _ h c =>
    ⟨(h c).1.trans (Cert.KernelIdeal.Value.final_o m m' c (hm c)).symm, (h c).2.1.trans (Cert.KernelIdeal.Value.final_s m m' c (hm c)).symm, (h c).2.2⟩) (Cert.ReferenceIdeal.Value.run m' g')⟩

/-- The up-projection's result is the reference's. -/
theorem algebraic_up : Cert.algebraic_FfnUpIdeal_FfnUpRefIdeal := by
  pair_intro
  · run_from Cert.FfnUpIdeal.Gen.run_main m g
  · hlo_run
    exact (Cert.FfnUpIdeal.Value.final m c).symm

/-- The down-projection's result is the reference's. -/
theorem algebraic_down : Cert.algebraic_FfnDownIdeal_FfnDownRefIdeal := fun m g m' g' _ hm =>
  ⟨_, Cert.FfnDownIdeal.Value.run_blocks m g, (θ_run _ _ _).mono (fun _ h c => by
    obtain ⟨h0, h1, h2, h3, h4, h5⟩ := hm c
    refine ⟨((h c).1.trans (Cert.FfnDownRefIdeal.Value.res_eq m' c)).trans ?_, (h c).2⟩
    rw [h0, h1, h2, h3, h4, h5]
    exact (Cert.FfnDownIdeal.Value.final m c).symm) (Cert.FfnDownRefIdeal.Value.run m' g')⟩

/-- The result of the final norm is the reference's. -/
theorem algebraic_norm : Cert.algebraic_FinalNormIdeal_FinalNormRefIdeal := fun m g m' g' _ hm =>
  ⟨_, Cert.FinalNormIdeal.Value.run_blocks m g, (θ_run _ _ _).mono (fun _ h c => by
    obtain ⟨h0, h1⟩ := hm c
    refine ⟨(h c).1.trans (Eq.trans ?_ (Cert.FinalNormIdeal.Value.final m c).symm), (h c).2⟩
    rw [← h0, ← h1]
    try rfl) (Cert.FinalNormRefIdeal.Value.run m' g')⟩

/-- The five results of the even layers' input projection are the reference's. -/
theorem algebraic_even : Cert.algebraic_EvenInIdeal_EvenInRefIdeal := fun m g m' g' _ hm =>
  ⟨_, _, _, _, _, Cert.EvenInIdeal.Value.run_all m g, (θ_run _ _ _).mono (fun _ h c => by
    obtain ⟨h0, h1, h2, h3⟩ := hm c
    have k := h c
    rw [h0, h1, h2, h3] at k
    rw [h0, h1, h2, h3]
    exact k) (Cert.EvenInRefIdeal.Value.run' m' g')⟩

/-- The seven results of the odd layers' input projection are the reference's. -/
theorem algebraic_odd : Cert.algebraic_OddInIdeal_OddInRefIdeal := fun m g m' g' _ hm =>
  ⟨_, _, _, _, _, _, _, Cert.OddInIdeal.Value.run_all m g, (θ_run _ _ _).mono (fun _ h c => by
    obtain ⟨h0, h1, h2, h3⟩ := hm c
    have k := h c
    rw [h0, h1, h2, h3] at k
    rw [h0, h1, h2, h3]
    exact k) (Cert.OddInRefIdeal.Value.run' m' g')⟩

/-- The result of the output projection is the reference's. -/
theorem algebraic_out : Cert.algebraic_MixOutIdeal_MixOutRefIdeal := fun m g m' g' _ hm =>
  ⟨_, Cert.MixOutIdeal.Value.run_blocks m g, (θ_run _ _ _).mono (fun _ h c => by
    obtain ⟨h0, h1, h2⟩ := hm c
    refine ⟨(h c).1.trans (Eq.trans ?_ (Cert.MixOutIdeal.Value.final m c).symm), (h c).2⟩
    rw [← h0, ← h1, ← h2]
    try rfl) (Cert.MixOutRefIdeal.Value.run m' g')⟩

/-- The two results of the retention of the samples are the reference's. -/
theorem algebraic_sample : Cert.algebraic_RetSampleIdeal_RetSampleRefIdeal := fun m g m' g' _ hm =>
  ⟨_, _, Cert.RetSampleIdeal.Value.run_blocks m g, (θ_run _ _ _).mono (fun _ h c => by
    obtain ⟨h0, h1, h2, h3⟩ := hm c
    have k := h c
    rw [h0, h1, h2, h3] at k
    rw [Cert.RetSampleIdeal.Value.final_o m c, Cert.RetSampleIdeal.Value.final_s m c, h0, h1, h2, h3]
    exact k) (Cert.RetSampleRefIdeal.Value.run' m' g')⟩

/-- The frames, the idealizations and the eight value claims. -/
theorem claim : Cert.Claim := ⟨Cert.Kernel.Gen.facts, Cert.KernelIdeal.Gen.facts, Cert.ReferenceIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts, Cert.FinalNorm.Gen.facts, Cert.FinalNormIdeal.Gen.facts, Cert.FinalNormRefIdeal.Gen.facts, Cert.EvenIn.Gen.facts, Cert.EvenInIdeal.Gen.facts, Cert.EvenInRefIdeal.Gen.facts, Cert.OddIn.Gen.facts, Cert.OddInIdeal.Gen.facts, Cert.OddInRefIdeal.Gen.facts, Cert.MixOut.Gen.facts, Cert.MixOutIdeal.Gen.facts, Cert.MixOutRefIdeal.Gen.facts, Cert.RetSample.Gen.facts, Cert.RetSampleIdeal.Gen.facts, Cert.RetSampleRefIdeal.Gen.facts,
  fun m ρ _ => Cert.Kernel.Gen.frame m ρ, fun m ρ _ => Cert.KernelIdeal.Gen.frame m ρ, frame_ReferenceIdeal,
  fun m ρ _ => Cert.FfnUp.Gen.frame m ρ, fun m ρ _ => Cert.FfnUpIdeal.Gen.frame m ρ, frame_FfnUpRefIdeal,
  fun m ρ _ => Cert.FfnDown.Gen.frame m ρ, fun m ρ _ => Cert.FfnDownIdeal.Gen.frame m ρ, frame_FfnDownRefIdeal,
  fun m ρ _ => Cert.FinalNorm.Gen.frame m ρ, fun m ρ _ => Cert.FinalNormIdeal.Gen.frame m ρ, frame_FinalNormRefIdeal,
  fun m ρ _ => Cert.EvenIn.Gen.frame m ρ, fun m ρ _ => Cert.EvenInIdeal.Gen.frame m ρ, frame_EvenInRefIdeal,
  fun m ρ _ => Cert.OddIn.Gen.frame m ρ, fun m ρ _ => Cert.OddInIdeal.Gen.frame m ρ, frame_OddInRefIdeal,
  fun m ρ _ => Cert.MixOut.Gen.frame m ρ, fun m ρ _ => Cert.MixOutIdeal.Gen.frame m ρ, frame_MixOutRefIdeal,
  fun m ρ _ => Cert.RetSample.Gen.frame m ρ, fun m ρ _ => Cert.RetSampleIdeal.Gen.frame m ρ, frame_RetSampleRefIdeal,
  trivial, algebraic_ret, trivial, algebraic_up, trivial, algebraic_down, trivial, algebraic_norm, trivial, algebraic_even, trivial, algebraic_odd, trivial, algebraic_out, trivial, algebraic_sample⟩

end Cert.Proof

end
